-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S8x1x128 : Shape := ⟨3, ![8, 1, 128]⟩
abbrev S8 : Shape := ⟨1, ![8]⟩
abbrev S8x4096x128 : Shape := ⟨3, ![8, 4096, 128]⟩
abbrev S8x2x65536 : Shape := ⟨3, ![8, 2, 65536]⟩
abbrev S8x1x65536 : Shape := ⟨3, ![8, 1, 65536]⟩
abbrev S128x128 : Shape := ⟨2, ![128, 128]⟩
abbrev S128 : Shape := ⟨1, ![128]⟩
abbrev S_ : Shape := ⟨0, ![]⟩

class Facts : Prop where
  bcast_S_S8x2x65536 : S_.BroadcastsInDim S8x2x65536 (![] : Fin 0 → Fin S8x2x65536.rank)
  reducesTo_S8x2x65536_S_d0_1_2 : S8x2x65536.ReducesTo [0, 1, 2] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S8x1x128 .f32) (main_arg1 : IVec S8 32) (main_arg2 : FVec F S8x4096x128 .f32) (main_arg3 : IVec S8x2x65536 32) (main_arg4 : FVec F S8x1x65536 .f32) (main_arg5 : IVec S8 32) (main_arg6 : FVec F S128x128 .f32) (main_arg7 : FVec F S128x128 .f32) (main_arg8 : FVec F S128 .f32) (main_arg9 : FVec F S128x128 .f32) (main_arg10 : FVec F S128x128 .f32) (main_arg11 : FVec F S128 .f32) : IVec S_ 1 :=
  let main_c : IVec S_ 32 := constantI S_ 32 0#32
  let main_v0 : IVec S8x2x65536 32 := broadcastInDim S8x2x65536 ![] bcast_S_S8x2x65536 main_c
  let main_v1 : IVec S8x2x65536 1 := cmpi .sge main_arg3 main_v0
  let main_c_0 : IVec S_ 32 := constantI S_ 32 4096#32
  let main_v2 : IVec S8x2x65536 32 := broadcastInDim S8x2x65536 ![] bcast_S_S8x2x65536 main_c_0
  let main_v3 : IVec S8x2x65536 1 := cmpi .slt main_arg3 main_v2
  let main_v4 : IVec S8x2x65536 1 := andi main_v1 main_v3
  let main_c_1 : IVec S_ 1 := constantI S_ 1 1#1
  let main_v5 : IVec S_ 1 := (fun x v => Host.reduce IntOp.andi x v reducesTo_S8x2x65536_S_d0_1_2 h_S_) main_v4 main_c_1
  let main_c_2 : IVec S_ 32 := constantI S_ 32 0#32
  let main_v6 : IVec S8 32 := broadcastInDim S8 ![] bcast_S_S8 main_c_2
  let main_v7 : IVec S8 1 := cmpi .sge main_arg5 main_v6
  let main_c_3 : IVec S_ 32 := constantI S_ 32 4096#32
  let main_v8 : IVec S8 32 := broadcastInDim S8 ![] bcast_S_S8 main_c_3
  let main_v9 : IVec S8 1 := cmpi .slt main_arg5 main_v8
  let main_v10 : IVec S8 1 := andi main_v7 main_v9
  let main_c_4 : IVec S_ 1 := constantI S_ 1 1#1
  let main_v11 : IVec S_ 1 := (fun x v => Host.reduce IntOp.andi x v reducesTo_S8_S_d0 h_S_) main_v10 main_c_4
  let main_v12 : IVec S_ 1 := andi main_v5 main_v11
  main_v12
-- ==== Kernel.lean ====
abbrev S8x1x128 : Shape := ⟨3, ![8, 1, 128]⟩
abbrev S8 : Shape := ⟨1, ![8]⟩
abbrev S8x4096x128 : Shape := ⟨3, ![8, 4096, 128]⟩
abbrev S8x2x65536 : Shape := ⟨3, ![8, 2, 65536]⟩
abbrev S8x1x65536 : Shape := ⟨3, ![8, 1, 65536]⟩
abbrev S128x128 : Shape := ⟨2, ![128, 128]⟩
abbrev S128 : Shape := ⟨1, ![128]⟩
abbrev S1x128 : Shape := ⟨2, ![1, 128]⟩
abbrev S8x128 : Shape := ⟨2, ![8, 128]⟩
abbrev S1x1x128 : Shape := ⟨3, ![1, 1, 128]⟩
abbrev S1x4096x128 : Shape := ⟨3, ![1, 4096, 128]⟩
abbrev S1x2x65536 : Shape := ⟨3, ![1, 2, 65536]⟩
abbrev S1x1x65536 : Shape := ⟨3, ![1, 1, 65536]⟩
abbrev S4096x128 : Shape := ⟨2, ![4096, 128]⟩
abbrev S1 : Shape := ⟨1, ![1]⟩
abbrev S256x1 : Shape := ⟨2, ![256, 1]⟩
abbrev S1x256x128 : Shape := ⟨3, ![1, 256, 128]⟩
abbrev S256x128 : Shape := ⟨2, ![256, 128]⟩
abbrev S1x1x256 : Shape := ⟨3, ![1, 1, 256]⟩
abbrev S256 : Shape := ⟨1, ![256]⟩
abbrev S1x256 : Shape := ⟨2, ![1, 256]⟩
abbrev S256x256 : Shape := ⟨2, ![256, 256]⟩

abbrev nBuf : Space → Nat
  | .hbm => 15
  | .vmem => 18
  | .smem => 1
  | _ => 0

abbrev bufTy : (tb : Table) → Fin (tcTables nBuf tb) → BufTy
  | .hbm, ⟨0, _⟩ => ⟨S8x1x128, .f32⟩
  | .hbm, ⟨1, _⟩ => ⟨S8, .i32⟩
  | .hbm, ⟨2, _⟩ => ⟨S8x4096x128, .f32⟩
  | .hbm, ⟨3, _⟩ => ⟨S8x2x65536, .i32⟩
  | .hbm, ⟨4, _⟩ => ⟨S8x1x65536, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S1x128, .f32⟩
  | .hbm, ⟨12, _⟩ => ⟨S1x128, .f32⟩
  | .hbm, ⟨13, _⟩ => ⟨S8x1x128, .f32⟩
  | .hbm, ⟨14, _⟩ => ⟨S8x128, .f32⟩
  | .local _ .vmem, ⟨0, _⟩ => ⟨S1x1x128, .f32⟩
  | .local _ .vmem, ⟨1, _⟩ => ⟨S1x1x128, .f32⟩
  | .local _ .vmem, ⟨2, _⟩ => ⟨S1x4096x128, .f32⟩
  | .local _ .vmem, ⟨3, _⟩ => ⟨S1x4096x128, .f32⟩
  | .local _ .vmem, ⟨4, _⟩ => ⟨S1x2x65536, .i32⟩
  | .local _ .vmem, ⟨5, _⟩ => ⟨S1x2x65536, .i32⟩
  | .local _ .vmem, ⟨6, _⟩ => ⟨S1x1x65536, .f32⟩
  | .local _ .vmem, ⟨7, _⟩ => ⟨S1x1x65536, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S128x128, .f32⟩
  | .local _ .vmem, ⟨12, _⟩ => ⟨S128x128, .f32⟩
  | .local _ .vmem, ⟨13, _⟩ => ⟨S1x128, .f32⟩
  | .local _ .vmem, ⟨14, _⟩ => ⟨S1x1x128, .f32⟩
  | .local _ .vmem, ⟨15, _⟩ => ⟨S1x1x128, .f32⟩
  | .local _ .vmem, ⟨16, _⟩ => ⟨S4096x128, .f32⟩
  | .local _ .vmem, ⟨17, _⟩ => ⟨S4096x128, .f32⟩
  | .local _ .smem, ⟨0, _⟩ => ⟨S8, .i32⟩
  | _, _ => ⟨S8x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_arg11 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v0 : Ref sig .tc := ⟨.hbm, 14, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32 : BitVec 32 := 0#32
  let c16_i32 : BitVec 32 := 16#32
  let v4 : BitVec 32 := Scalar.addi c0_i32 c16_i32
  let c1_i32 : BitVec 32 := 1#32
  ⟨c0_i32, v4, c1_i32⟩
def k0_off2 (k0_t1 : Fin k0_t1_loop.trips) : Fin 3 → Nat :=
  let c0_38 : Index := 0#32
  let c0_i32 : BitVec 32 := 0#32
  let c1_i32 : BitVec 32 := 1#32
  let arg15 : BitVec 32 := Scf.iv c0_i32 c1_i32 k0_t1
  let c256_i32_37 : BitVec 32 := 256#32
  let v33 : BitVec 32 := Scalar.muli arg15 c256_i32_37
  let v34 : Index := Scalar.indexCast v33
  let c0_39 : Index := 0#32
  ![0, v34.toNat, 0]
def k0_off3 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32_40 : BitVec 32 := 256#32
  let v44 : BitVec 32 := Scalar.muli arg15 c256_i32_40
  let v45 : Index := Scalar.indexCast v44
  let c0_41 : Index := 0#32
  ![v45.toNat, 0]
@[reducible] def k0_t2_loop : Scf.Loop 32 :=
  let c0_i32_3 : BitVec 32 := 0#32
  let c256_i32 : BitVec 32 := 256#32
  let v5 : BitVec 32 := Scalar.addi c0_i32_3 c256_i32
  let c1_i32_4 : BitVec 32 := 1#32
  ⟨c0_i32_3, v5, c1_i32_4⟩
def k0_off4 (k0_t2 : Fin k0_t2_loop.trips) : Fin 3 → Nat :=
  let c0_37 : Index := 0#32
  let c0_38 : Index := 0#32
  let c0_i32_3 : BitVec 32 := 0#32
  let c1_i32_4 : BitVec 32 := 1#32
  let arg15 : BitVec 32 := Scf.iv c0_i32_3 c1_i32_4 k0_t2
  let c256_i32_36 : BitVec 32 := 256#32
  let v29 : BitVec 32 := Scalar.muli arg15 c256_i32_36
  let v30 : Index := Scalar.indexCast v29
  ![0, 0, v30.toNat]
def k0_off5 (k0_t2 : Fin k0_t2_loop.trips) : Fin 3 → Nat :=
  let c0_40 : Index := 0#32
  let c1 : Index := 1#32
  let c0_i32_3 : BitVec 32 := 0#32
  let c1_i32_4 : BitVec 32 := 1#32
  let arg15 : BitVec 32 := Scf.iv c0_i32_3 c1_i32_4 k0_t2
  let c256_i32_39 : BitVec 32 := 256#32
  let v34 : BitVec 32 := Scalar.muli arg15 c256_i32_39
  let v35 : Index := Scalar.indexCast v34
  ![0, 1, v35.toNat]
def k0_off6 (k0_t2 : Fin k0_t2_loop.trips) : Fin 3 → Nat :=
  let c0_42 : Index := 0#32
  let c0_43 : Index := 0#32
  let c0_i32_3 : BitVec 32 := 0#32
  let c1_i32_4 : BitVec 32 := 1#32
  let arg15 : BitVec 32 := Scf.iv c0_i32_3 c1_i32_4 k0_t2
  let c256_i32_41 : BitVec 32 := 256#32
  let v39 : BitVec 32 := Scalar.muli arg15 c256_i32_41
  let v40 : Index := Scalar.indexCast v39
  ![0, 0, v40.toNat]
@[reducible] def k0_t3_loop : Scf.Loop 32 :=
  let c0_i32_45 : BitVec 32 := 0#32
  let c16_i32_46 : BitVec 32 := 16#32
  let v45 : BitVec 32 := Scalar.addi c0_i32_45 c16_i32_46
  let c1_i32_47 : BitVec 32 := 1#32
  ⟨c0_i32_45, v45, c1_i32_47⟩
def k0_off7 (k0_t3 : Fin k0_t3_loop.trips) : Fin 2 → Nat :=
  let c0_i32_45 : BitVec 32 := 0#32
  let c1_i32_47 : BitVec 32 := 1#32
  let arg16 : BitVec 32 := Scf.iv c0_i32_45 c1_i32_47 k0_t3
  let c256_i32_54 : BitVec 32 := 256#32
  let v56 : BitVec 32 := Scalar.muli arg16 c256_i32_54
  let v57 : Index := Scalar.indexCast v56
  let c0_55 : Index := 0#32
  ![v57.toNat, 0]
@[reducible] def k0_t4_loop : Scf.Loop 32 :=
  let c0_i32_49 : BitVec 32 := 0#32
  let c16_i32_50 : BitVec 32 := 16#32
  let v47 : BitVec 32 := Scalar.addi c0_i32_49 c16_i32_50
  let c1_i32_51 : BitVec 32 := 1#32
  ⟨c0_i32_49, v47, c1_i32_51⟩
def k0_off8 (k0_t4 : Fin k0_t4_loop.trips) : Fin 2 → Nat :=
  let c0_i32_49 : BitVec 32 := 0#32
  let c1_i32_51 : BitVec 32 := 1#32
  let arg16 : BitVec 32 := Scf.iv c0_i32_49 c1_i32_51 k0_t4
  let c256_i32_55 : BitVec 32 := 256#32
  let v58 : BitVec 32 := Scalar.muli arg16 c256_i32_55
  let v59 : Index := Scalar.indexCast v58
  let c0_56 : Index := 0#32
  ![v59.toNat, 0]
@[reducible] def k0_t5_loop : Scf.Loop 32 :=
  let c0_i32_12 : BitVec 32 := 0#32
  let c16_i32_13 : BitVec 32 := 16#32
  let v10 : BitVec 32 := Scalar.addi c0_i32_12 c16_i32_13
  let c1_i32_14 : BitVec 32 := 1#32
  ⟨c0_i32_12, v10, c1_i32_14⟩
def k0_off9 (k0_t5 : Fin k0_t5_loop.trips) : Fin 2 → Nat :=
  let c0_i32_12 : BitVec 32 := 0#32
  let c1_i32_14 : BitVec 32 := 1#32
  let arg15 : BitVec 32 := Scf.iv c0_i32_12 c1_i32_14 k0_t5
  let c256_i32_36 : BitVec 32 := 256#32
  let v29 : BitVec 32 := Scalar.muli arg15 c256_i32_36
  let v30 : Index := Scalar.indexCast v29
  let c0_37 : Index := 0#32
  ![v30.toNat, 0]
@[reducible] def k0_t6_loop : Scf.Loop 32 :=
  let c0_i32_16 : BitVec 32 := 0#32
  let c256_i32_17 : BitVec 32 := 256#32
  let v12 : BitVec 32 := Scalar.addi c0_i32_16 c256_i32_17
  let c1_i32_18 : BitVec 32 := 1#32
  ⟨c0_i32_16, v12, c1_i32_18⟩
def k0_off10 (k0_t6 : Fin k0_t6_loop.trips) : Fin 3 → Nat :=
  let c0_37 : Index := 0#32
  let c0_38 : Index := 0#32
  let c0_i32_16 : BitVec 32 := 0#32
  let c1_i32_18 : BitVec 32 := 1#32
  let arg15 : BitVec 32 := Scf.iv c0_i32_16 c1_i32_18 k0_t6
  let c256_i32_36 : BitVec 32 := 256#32
  let v29 : BitVec 32 := Scalar.muli arg15 c256_i32_36
  let v30 : Index := Scalar.indexCast v29
  ![0, 0, v30.toNat]
def k0_off11 (k0_t6 : Fin k0_t6_loop.trips) : Fin 3 → Nat :=
  let c0_40 : Index := 0#32
  let c1 : Index := 1#32
  let c0_i32_16 : BitVec 32 := 0#32
  let c1_i32_18 : BitVec 32 := 1#32
  let arg15 : BitVec 32 := Scf.iv c0_i32_16 c1_i32_18 k0_t6
  let c256_i32_39 : BitVec 32 := 256#32
  let v34 : BitVec 32 := Scalar.muli arg15 c256_i32_39
  let v35 : Index := Scalar.indexCast v34
  ![0, 1, v35.toNat]
def k0_off12 (k0_t6 : Fin k0_t6_loop.trips) : Fin 3 → Nat :=
  let c0_42 : Index := 0#32
  let c0_43 : Index := 0#32
  let c0_i32_16 : BitVec 32 := 0#32
  let c1_i32_18 : BitVec 32 := 1#32
  let arg15 : BitVec 32 := Scf.iv c0_i32_16 c1_i32_18 k0_t6
  let c256_i32_41 : BitVec 32 := 256#32
  let v39 : BitVec 32 := Scalar.muli arg15 c256_i32_41
  let v40 : Index := Scalar.indexCast v39
  ![0, 0, v40.toNat]
@[reducible] def k0_t7_loop : Scf.Loop 32 :=
  let c0_i32_45 : BitVec 32 := 0#32
  let c16_i32_46 : BitVec 32 := 16#32
  let v45 : BitVec 32 := Scalar.addi c0_i32_45 c16_i32_46
  let c1_i32_47 : BitVec 32 := 1#32
  ⟨c0_i32_45, v45, c1_i32_47⟩
def k0_off13 (k0_t7 : Fin k0_t7_loop.trips) : Fin 2 → Nat :=
  let c0_i32_45 : BitVec 32 := 0#32
  let c1_i32_47 : BitVec 32 := 1#32
  let arg17 : BitVec 32 := Scf.iv c0_i32_45 c1_i32_47 k0_t7
  let c256_i32_52 : BitVec 32 := 256#32
  let v61 : BitVec 32 := Scalar.muli arg17 c256_i32_52
  let v62 : Index := Scalar.indexCast v61
  let c0_53 : Index := 0#32
  ![v62.toNat, 0]
@[reducible] def k0_t8_loop : Scf.Loop 32 :=
  let c0_i32_21 : BitVec 32 := 0#32
  let c16_i32_22 : BitVec 32 := 16#32
  let v15 : BitVec 32 := Scalar.addi c0_i32_21 c16_i32_22
  let c1_i32_23 : BitVec 32 := 1#32
  ⟨c0_i32_21, v15, c1_i32_23⟩
def k0_off14 (k0_t8 : Fin k0_t8_loop.trips) : Fin 2 → Nat :=
  let c0_i32_21 : BitVec 32 := 0#32
  let c1_i32_23 : BitVec 32 := 1#32
  let arg15 : BitVec 32 := Scf.iv c0_i32_21 c1_i32_23 k0_t8
  let c256_i32_37 : BitVec 32 := 256#32
  let v33 : BitVec 32 := Scalar.muli arg15 c256_i32_37
  let v34 : Index := Scalar.indexCast v33
  let c0_38 : Index := 0#32
  ![v34.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x65536 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x65536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S8x1x128 : Shape := ⟨3, ![8, 1, 128]⟩
abbrev S8 : Shape := ⟨1, ![8]⟩
abbrev S8x4096x128 : Shape := ⟨3, ![8, 4096, 128]⟩
abbrev S8x2x65536 : Shape := ⟨3, ![8, 2, 65536]⟩
abbrev S8x1x65536 : Shape := ⟨3, ![8, 1, 65536]⟩
abbrev S128x128 : Shape := ⟨2, ![128, 128]⟩
abbrev S128 : Shape := ⟨1, ![128]⟩
abbrev S8x128 : Shape := ⟨2, ![8, 128]⟩
abbrev S_ : Shape := ⟨0, ![]⟩
abbrev S8x1 : Shape := ⟨2, ![8, 1]⟩
abbrev S8x2 : Shape := ⟨2, ![8, 2]⟩
abbrev S32768x128 : Shape := ⟨2, ![32768, 128]⟩
abbrev S8x1x1 : Shape := ⟨3, ![8, 1, 1]⟩
abbrev S2x8x65536 : Shape := ⟨3, ![2, 8, 65536]⟩
abbrev S2x524288 : Shape := ⟨2, ![2, 524288]⟩
abbrev S1x524288 : Shape := ⟨2, ![1, 524288]⟩
abbrev S524288 : Shape := ⟨1, ![524288]⟩
abbrev S524288x1 : Shape := ⟨2, ![524288, 1]⟩
abbrev S524288x128 : Shape := ⟨2, ![524288, 128]⟩
abbrev S1x128 : Shape := ⟨2, ![1, 128]⟩

abbrev nBuf : Space → Nat
  | .hbm => 106
  | .vmem => 0
  | .smem => 0
  | _ => 0

abbrev bufTy : (tb : Table) → Fin (tcTables nBuf tb) → BufTy
  | .hbm, ⟨0, _⟩ => ⟨S8x1x128, .f32⟩
  | .hbm, ⟨1, _⟩ => ⟨S8, .i32⟩
  | .hbm, ⟨2, _⟩ => ⟨S8x4096x128, .f32⟩
  | .hbm, ⟨3, _⟩ => ⟨S8x2x65536, .i32⟩
  | .hbm, ⟨4, _⟩ => ⟨S8x1x65536, .f32⟩
  | .hbm, ⟨5, _⟩ => ⟨S8, .i32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S8, .i32⟩
  | .hbm, ⟨13, _⟩ => ⟨S8x128, .f32⟩
  | .hbm, ⟨14, _⟩ => ⟨S_, .i32⟩
  | .hbm, ⟨15, _⟩ => ⟨S8, .i32⟩
  | .hbm, ⟨16, _⟩ => ⟨S8, .i1⟩
  | .hbm, ⟨17, _⟩ => ⟨S_, .i32⟩
  | .hbm, ⟨18, _⟩ => ⟨S8, .i32⟩
  | .hbm, ⟨19, _⟩ => ⟨S8, .i32⟩
  | .hbm, ⟨20, _⟩ => ⟨S8, .i32⟩
  | .hbm, ⟨21, _⟩ => ⟨S_, .i32⟩
  | .hbm, ⟨22, _⟩ => ⟨S8, .i32⟩
  | .hbm, ⟨23, _⟩ => ⟨S8, .i1⟩
  | .hbm, ⟨24, _⟩ => ⟨S_, .i32⟩
  | .hbm, ⟨25, _⟩ => ⟨S8, .i32⟩
  | .hbm, ⟨26, _⟩ => ⟨S8, .i32⟩
  | .hbm, ⟨27, _⟩ => ⟨S8, .i32⟩
  | .hbm, ⟨28, _⟩ => ⟨S8x1, .i32⟩
  | .hbm, ⟨29, _⟩ => ⟨S8x1, .i32⟩
  | .hbm, ⟨30, _⟩ => ⟨S8x2, .i32⟩
  | .hbm, ⟨31, _⟩ => ⟨S8x4096x128, .f32⟩
  | .hbm, ⟨32, _⟩ => ⟨S32768x128, .f32⟩
  | .hbm, ⟨33, _⟩ => ⟨S8, .i32⟩
  | .hbm, ⟨34, _⟩ => ⟨S_, .i32⟩
  | .hbm, ⟨35, _⟩ => ⟨S8, .i32⟩
  | .hbm, ⟨36, _⟩ => ⟨S8, .i32⟩
  | .hbm, ⟨37, _⟩ => ⟨S8x1x1, .i32⟩
  | .hbm, ⟨38, _⟩ => ⟨S8x2x65536, .i32⟩
  | .hbm, ⟨39, _⟩ => ⟨S8x2x65536, .i32⟩
  | .hbm, ⟨40, _⟩ => ⟨S2x8x65536, .i32⟩
  | .hbm, ⟨41, _⟩ => ⟨S2x524288, .i32⟩
  | .hbm, ⟨42, _⟩ => ⟨S1x524288, .i32⟩
  | .hbm, ⟨43, _⟩ => ⟨S524288, .i32⟩
  | .hbm, ⟨44, _⟩ => ⟨S1x524288, .i32⟩
  | .hbm, ⟨45, _⟩ => ⟨S524288, .i32⟩
  | .hbm, ⟨46, _⟩ => ⟨S524288, .f32⟩
  | .hbm, ⟨47, _⟩ => ⟨S_, .i32⟩
  | .hbm, ⟨48, _⟩ => ⟨S524288, .i32⟩
  | .hbm, ⟨49, _⟩ => ⟨S524288, .i1⟩
  | .hbm, ⟨50, _⟩ => ⟨S_, .i32⟩
  | .hbm, ⟨51, _⟩ => ⟨S524288, .i32⟩
  | .hbm, ⟨52, _⟩ => ⟨S524288, .i32⟩
  | .hbm, ⟨53, _⟩ => ⟨S524288, .i32⟩
  | .hbm, ⟨54, _⟩ => ⟨S524288x1, .i32⟩
  | .hbm, ⟨55, _⟩ => ⟨S524288x128, .f32⟩
  | .hbm, ⟨56, _⟩ => ⟨S524288x1, .f32⟩
  | .hbm, ⟨57, _⟩ => ⟨S524288x128, .f32⟩
  | .hbm, ⟨58, _⟩ => ⟨S524288x128, .f32⟩
  | .hbm, ⟨59, _⟩ => ⟨S_, .f32⟩
  | .hbm, ⟨60, _⟩ => ⟨S32768x128, .f32⟩
  | .hbm, ⟨61, _⟩ => ⟨S524288x1, .i32⟩
  | .hbm, ⟨62, _⟩ => ⟨S32768x128, .f32⟩
  | .hbm, ⟨63, _⟩ => ⟨S32768x128, .f32⟩
  | .hbm, ⟨64, _⟩ => ⟨S32768x128, .f32⟩
  | .hbm, ⟨65, _⟩ => ⟨S32768x128, .f32⟩
  | .hbm, ⟨66, _⟩ => ⟨S1x128, .f32⟩
  | .hbm, ⟨67, _⟩ => ⟨S32768x128, .f32⟩
  | .hbm, ⟨68, _⟩ => ⟨S32768x128, .f32⟩
  | .hbm, ⟨69, _⟩ => ⟨S32768x128, .f32⟩
  | .hbm, ⟨70, _⟩ => ⟨S_, .i32⟩
  | .hbm, ⟨71, _⟩ => ⟨S524288, .i32⟩
  | .hbm, ⟨72, _⟩ => ⟨S524288, .i1⟩
  | .hbm, ⟨73, _⟩ => ⟨S_, .i32⟩
  | .hbm, ⟨74, _⟩ => ⟨S524288, .i32⟩
  | .hbm, ⟨75, _⟩ => ⟨S524288, .i32⟩
  | .hbm, ⟨76, _⟩ => ⟨S524288, .i32⟩
  | .hbm, ⟨77, _⟩ => ⟨S524288x1, .i32⟩
  | .hbm, ⟨78, _⟩ => ⟨S524288x128, .f32⟩
  | .hbm, ⟨79, _⟩ => ⟨S524288x1, .f32⟩
  | .hbm, ⟨80, _⟩ => ⟨S524288x128, .f32⟩
  | .hbm, ⟨81, _⟩ => ⟨S524288x128, .f32⟩
  | .hbm, ⟨82, _⟩ => ⟨S_, .f32⟩
  | .hbm, ⟨83, _⟩ => ⟨S32768x128, .f32⟩
  | .hbm, ⟨84, _⟩ => ⟨S524288x1, .i32⟩
  | .hbm, ⟨85, _⟩ => ⟨S32768x128, .f32⟩
  | .hbm, ⟨86, _⟩ => ⟨S32768x128, .f32⟩
  | .hbm, ⟨87, _⟩ => ⟨S32768x128, .f32⟩
  | .hbm, ⟨88, _⟩ => ⟨S32768x128, .f32⟩
  | .hbm, ⟨89, _⟩ => ⟨S1x128, .f32⟩
  | .hbm, ⟨90, _⟩ => ⟨S32768x128, .f32⟩
  | .hbm, ⟨91, _⟩ => ⟨S32768x128, .f32⟩
  | .hbm, ⟨92, _⟩ => ⟨S32768x128, .f32⟩
  | .hbm, ⟨93, _⟩ => ⟨S_, .i32⟩
  | .hbm, ⟨94, _⟩ => ⟨S8, .i32⟩
  | .hbm, ⟨95, _⟩ => ⟨S8, .i32⟩
  | .hbm, ⟨96, _⟩ => ⟨S8, .i32⟩
  | .hbm, ⟨97, _⟩ => ⟨S_, .i32⟩
  | .hbm, ⟨98, _⟩ => ⟨S8, .i32⟩
  | .hbm, ⟨99, _⟩ => ⟨S8, .i1⟩
  | .hbm, ⟨100, _⟩ => ⟨S_, .i32⟩
  | .hbm, ⟨101, _⟩ => ⟨S8, .i32⟩
  | .hbm, ⟨102, _⟩ => ⟨S8, .i32⟩
  | .hbm, ⟨103, _⟩ => ⟨S8, .i32⟩
  | .hbm, ⟨104, _⟩ => ⟨S8x1, .i32⟩
  | .hbm, ⟨105, _⟩ => ⟨S8x128, .f32⟩
  | _, _ => ⟨S8x1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_4 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_6 : Ref sig .tc := ⟨.hbm, 70, rfl⟩
abbrev main_v50 : Ref sig .tc := ⟨.hbm, 71, rfl⟩
abbrev main_v51 : Ref sig .tc := ⟨.hbm, 72, rfl⟩
abbrev main_c_7 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_8 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_c_9 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_c_10 : Ref sig .tc := ⟨.hbm, 97, rfl⟩
abbrev main_v73 : Ref sig .tc := ⟨.hbm, 98, rfl⟩
abbrev main_v74 : Ref sig .tc := ⟨.hbm, 99, rfl⟩
abbrev main_c_11 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩

abbrev nD : Nat := 1
abbrev τ : Topo := Topo.v7x

variable {F : FTy → Type} [FloatOps F]
-- ==== Proof.IdealLoops.lean ====
/- The kernel's loops, each gone through by an invariant over the VALUES its buffers hold: what a trip leaves in the node
   features, in the aggregate and in the carried value is a plain function of what it found there. -/
module

public import proofs.«01_k».proof.Proof.Gen.KernelIdeal.Skeleton
public import Idealize.ShloMosaic.Lib.Exec
public import Idealize.ShloMosaic.Lib.Tactic
public import Idealize.ShloMosaic.Lib.VecWindow
public import Idealize.ShloMosaic.Lib.Pipeline.Kit
public import Idealize.ShloMosaic.Lib.Pipeline.Frame

@[expose] public section

set_option maxRecDepth 16384

noncomputable section

namespace Cert.KernelIdeal.Sgcm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Contents of a whole memref that read `X` are the representative of `X`. -/
theorem eq_rep {κ : Kind} {sp : Space} {s : Shape} {e : EltTy} {M : Memref sig κ sp s e} (h : M.IsWhole)
    {f : M.view.ty.Contents (Elt F)} {X : s.Idx → Elt F e} (hf : M.view.read (Elt F) f = X) : f = M.view.rep X :=
  h.read_bijective.1 (hf.trans (View.read_rep _ _).symm)

/-- A load of the representative of `X` is the window of `X`. -/
theorem load_eq {κ : Kind} {sp : Space} {s : Shape} {e : EltTy} (v : View sig κ sp s e) (X : s.Idx → Elt F e) {off size : Fin s.rank → ℕ}
    (inb : ∀ a, off a + size a ≤ s.size a) :
    v.readAt (Elt F) (Rect.unit off size inb).toLoadRect (v.rep X) = VecWindow.window X off size inb :=
  View.readAt_rep_unit v X inb rfl inb

/-! ## What the loops compute -/

/-- The node features before tile `k` of the first loop: the tiles before `k` are the graph's nodes, the row at the
    graph's own position replaced by the new row. -/
def rows (v1 : Elt F .i32) (v2 : Vec F S1x1x128 .f32) (N : Vec F S1x4096x128 .f32) (X : Vec F S4096x128 .f32) : ℕ → Vec F S4096x128 .f32
  | 0 => X
  | k + 1 => if h : k < k0_t1_loop.trips then
      VecWindow.put (rows v1 v2 N X k) (k0_off3 ⟨k, h⟩) S256x128.size
        (k0_pay2 v1 v2 ⟨k, h⟩ (VecWindow.window N (k0_off2 ⟨k, h⟩) S1x256x128.size (k0_off2_inb ⟨k, h⟩)))
    else rows v1 v2 N X k

/-- The aggregate before tile `k` of the first loop: the tiles before `k` are zero. -/
def zeros (X : Vec F S4096x128 .f32) : ℕ → Vec F S4096x128 .f32
  | 0 => X
  | k + 1 => if h : k < k0_t1_loop.trips then VecWindow.put (zeros X k) (k0_off3 ⟨k, h⟩) S256x128.size (k0_pay3 (F := F)) else zeros X k

/-- One more trip of the first loop writes one more tile of features. -/
theorem rows_succ (v1 : Elt F .i32) (v2 : Vec F S1x1x128 .f32) (N : Vec F S1x4096x128 .f32) (X : Vec F S4096x128 .f32) (k : Fin k0_t1_loop.trips) :
    rows v1 v2 N X (k.val + 1) = VecWindow.put (rows v1 v2 N X k.val) (k0_off3 k) S256x128.size
        (k0_pay2 v1 v2 k (VecWindow.window N (k0_off2 k) S1x256x128.size (k0_off2_inb k))) := dif_pos k.isLt

/-- One more trip clears one more tile of the aggregate. -/
theorem zeros_succ (X : Vec F S4096x128 .f32) (k : Fin k0_t1_loop.trips) :
    zeros X (k.val + 1) = VecWindow.put (zeros X k.val) (k0_off3 k) S256x128.size (k0_pay3 (F := F)) := dif_pos k.isLt

set_option warn.classDefReducibility false in
/-- THE FIRST LOOP: tile by tile it fills the node features and clears the aggregate. -/
@[sl_loop] def loop1 (c : Dev nD) (i : grid0.Coords) (arg1 : Memref sig .tc .smem S8 .i32) (harg1 : arg1.IsWhole) (arg2 : Memref sig .tc .vmem S1x1x128 .f32) (harg2 : arg2.IsWhole) (arg3 : Memref sig .tc .vmem S1x4096x128 .f32) (harg3 : arg3.IsWhole) (arg4 : Memref sig .tc .vmem S1x2x65536 .i32) (harg4 : arg4.IsWhole) (arg5 : Memref sig .tc .vmem S1x1x65536 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x1x128 .f32) (harg12 : arg12.IsWhole) (arg13 : Memref sig .tc .vmem S4096x128 .f32) (harg13 : arg13.IsWhole) (arg14 : Memref sig .tc .vmem S4096x128 .f32) (harg14 : arg14.IsWhole) (v1 : Elt F .i32) (v2 : Vec F S1x1x128 .f32)
    (N : Vec F S1x4096x128 .f32) (X Y : Vec F S4096x128 .f32) :
    Idealize.ShloMosaic.LoopInv (M := MT nD τ sig Unit (Elt F) ℕ (UR sig nD τ) ℕ) Idealize.ShloMosaic.frame (wpE defs₀ Variants.none (c : Thread nD τ) none) Set.univ
      k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 v1 v2) where
  inv k _ := iprop((arg3.view.loc (c : Thread nD τ) ↦[arg3.view.set]{fullShare} arg3.view.rep N)
    ∗ (∃ f, (arg13.view.loc (c : Thread nD τ) ↦[arg13.view.set]{fullShare} f) ∗ ⌜f = arg13.view.rep (rows v1 v2 N X k)⌝)
    ∗ (∃ f, (arg14.view.loc (c : Thread nD τ) ↦[arg14.view.set]{fullShare} f) ∗ ⌜f = arg14.view.rep (zeros Y k)⌝))
  step k acc := by
    have hk : k.val < 16 := Nat.lt_of_lt_of_le k.isLt k0_t1_abs.2.1
    iintro ⟨H3, ⟨%f13, H13, %h13⟩, ⟨%f14, H14, %h14⟩⟩
    subst h13 h14
    unfold k0_t1_body
    sl_exec
    sl_step
    isplitl [H3]; · iexact H3
    isplitl [H13]
    · iexists _; isplitl [H13]; · iexact H13
      ipureintro
      apply eq_rep harg13
      rw [View.read_writes_rep_unit _ _ _ _ rfl, rows_succ]
      simp only [load_eq]
    · iexists _; isplitl [H14]; · iexact H14
      ipureintro
      apply eq_rep harg14
      rw [View.read_writes_rep_unit _ _ _ _ rfl, zeros_succ]

/-- The rows of `H` gathered before tile `k`: what the tiles before `k` hold of the rows `v31` names. -/
def gath (v31 : Vec F S1x1x256 .i32) (H : Vec F S4096x128 .f32) : ℕ → FVec F S256x128 .f32
  | 0 => k0_pay4 (F := F)
  | k + 1 => if h : k < k0_t3_loop.trips then
      k0_pay5 v31 ⟨k, h⟩ (gath v31 H k) (VecWindow.window H (k0_off7 ⟨k, h⟩) S256x128.size (k0_off7_inb ⟨k, h⟩))
    else gath v31 H k

/-- One more trip of the gather adds the rows picked from one more tile. -/
theorem gath_succ (v31 : Vec F S1x1x256 .i32) (H : Vec F S4096x128 .f32) (k : Fin k0_t3_loop.trips) :
    gath v31 H (k.val + 1) = k0_pay5 v31 k (gath v31 H k.val) (VecWindow.window H (k0_off7 k) S256x128.size (k0_off7_inb k)) := dif_pos k.isLt

set_option warn.classDefReducibility false in
/-- THE GATHER of the first layer: it reads the node features tile by tile. -/
@[sl_loop] def loop3 (c : Dev nD) (i : grid0.Coords) (arg1 : Memref sig .tc .smem S8 .i32) (harg1 : arg1.IsWhole) (arg2 : Memref sig .tc .vmem S1x1x128 .f32) (harg2 : arg2.IsWhole) (arg3 : Memref sig .tc .vmem S1x4096x128 .f32) (harg3 : arg3.IsWhole) (arg4 : Memref sig .tc .vmem S1x2x65536 .i32) (harg4 : arg4.IsWhole) (arg5 : Memref sig .tc .vmem S1x1x65536 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x1x128 .f32) (harg12 : arg12.IsWhole) (arg13 : Memref sig .tc .vmem S4096x128 .f32) (harg13 : arg13.IsWhole) (arg14 : Memref sig .tc .vmem S4096x128 .f32) (harg14 : arg14.IsWhole) (v31 : Vec F S1x1x256 .i32) (H : Vec F S4096x128 .f32) :
    Idealize.ShloMosaic.LoopInv (M := MT nD τ sig Unit (Elt F) ℕ (UR sig nD τ) ℕ) Idealize.ShloMosaic.frame (wpE defs₀ Variants.none (c : Thread nD τ) none) Set.univ
      k0_t3_loop.lb k0_t3_loop.ub k0_t3_loop.st k0_t3_ok (k0_pay4 (F := F)) (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 v31) where
  inv k acc := iprop((arg13.view.loc (c : Thread nD τ) ↦[arg13.view.set]{fullShare} arg13.view.rep H) ∗ ⌜acc = gath v31 H k⌝)
  step k acc := by
    have hk : k.val < 16 := Nat.lt_of_lt_of_le k.isLt k0_t3_abs.2.1
    iintro ⟨H13, %hacc⟩
    subst hacc
    unfold k0_t3_body
    sl_exec
    sl_step
    isplitl [H13]; · iexact H13
    ipureintro
    rw [gath_succ]
    simp only [load_eq]

/-- The aggregate before tile `k`: the tiles before `k` have the chunk's weighted rows added in. -/
def scat (v36 : Vec F S1x1x256 .i32) (v41 : Vec F S1x1x256 .f32) (v46 : FVec F S256x128 .f32) (A : Vec F S4096x128 .f32) : ℕ → Vec F S4096x128 .f32
  | 0 => A
  | k + 1 => if h : k < k0_t4_loop.trips then
      VecWindow.put (scat v36 v41 v46 A k) (k0_off8 ⟨k, h⟩) S256x128.size
        (k0_pay6 v36 v41 v46 ⟨k, h⟩ (VecWindow.window (scat v36 v41 v46 A k) (k0_off8 ⟨k, h⟩) S256x128.size (k0_off8_inb ⟨k, h⟩)))
    else scat v36 v41 v46 A k

/-- One more trip of the scatter adds the messages ending in one more tile. -/
theorem scat_succ (v36 : Vec F S1x1x256 .i32) (v41 : Vec F S1x1x256 .f32) (v46 : FVec F S256x128 .f32) (A : Vec F S4096x128 .f32) (k : Fin k0_t4_loop.trips) :
    scat v36 v41 v46 A (k.val + 1) = VecWindow.put (scat v36 v41 v46 A k.val) (k0_off8 k) S256x128.size
        (k0_pay6 v36 v41 v46 k (VecWindow.window (scat v36 v41 v46 A k.val) (k0_off8 k) S256x128.size (k0_off8_inb k))) := dif_pos k.isLt

set_option warn.classDefReducibility false in
/-- THE SCATTER of the first layer: it adds a chunk's weighted rows into the aggregate, tile by tile. -/
@[sl_loop] def loop4 (c : Dev nD) (i : grid0.Coords) (arg1 : Memref sig .tc .smem S8 .i32) (harg1 : arg1.IsWhole) (arg2 : Memref sig .tc .vmem S1x1x128 .f32) (harg2 : arg2.IsWhole) (arg3 : Memref sig .tc .vmem S1x4096x128 .f32) (harg3 : arg3.IsWhole) (arg4 : Memref sig .tc .vmem S1x2x65536 .i32) (harg4 : arg4.IsWhole) (arg5 : Memref sig .tc .vmem S1x1x65536 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x1x128 .f32) (harg12 : arg12.IsWhole) (arg13 : Memref sig .tc .vmem S4096x128 .f32) (harg13 : arg13.IsWhole) (arg14 : Memref sig .tc .vmem S4096x128 .f32) (harg14 : arg14.IsWhole) (v36 : Vec F S1x1x256 .i32) (v41 : Vec F S1x1x256 .f32) (v46 : FVec F S256x128 .f32) (A : Vec F S4096x128 .f32) :
    Idealize.ShloMosaic.LoopInv (M := MT nD τ sig Unit (Elt F) ℕ (UR sig nD τ) ℕ) Idealize.ShloMosaic.frame (wpE defs₀ Variants.none (c : Thread nD τ) none) Set.univ
      k0_t4_loop.lb k0_t4_loop.ub k0_t4_loop.st k0_t4_ok () (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 v36 v41 v46) where
  inv k _ := iprop(∃ f, (arg14.view.loc (c : Thread nD τ) ↦[arg14.view.set]{fullShare} f) ∗ ⌜f = arg14.view.rep (scat v36 v41 v46 A k)⌝)
  step k acc := by
    have hk : k.val < 16 := Nat.lt_of_lt_of_le k.isLt k0_t4_abs.2.1
    iintro ⟨%f14, H14, %h14⟩
    subst h14
    unfold k0_t4_body
    sl_exec
    sl_step
    iexists _; isplitl [H14]; · iexact H14
    ipureintro
    apply eq_rep harg14
    rw [View.read_writes_rep_unit _ _ _ _ rfl, scat_succ]
    simp only [load_eq]

/-- Chunk `k` of the edges' first ends, of their second ends, and of their weights. -/
abbrev srcs (E : Vec F S1x2x65536 .i32) (k : Fin k0_t2_loop.trips) : Vec F S1x1x256 .i32 := VecWindow.window E (k0_off4 k) S1x1x256.size (k0_off4_inb k)
/-- The ends of a chunk of edges, first layer. -/
abbrev dsts (E : Vec F S1x2x65536 .i32) (k : Fin k0_t2_loop.trips) : Vec F S1x1x256 .i32 := VecWindow.window E (k0_off5 k) S1x1x256.size (k0_off5_inb k)
/-- The weights of a chunk of edges, first layer. -/
abbrev wts (W : Vec F S1x1x65536 .f32) (k : Fin k0_t2_loop.trips) : Vec F S1x1x256 .f32 := VecWindow.window W (k0_off6 k) S1x1x256.size (k0_off6_inb k)

/-- The aggregate before chunk `k` of the edges. -/
def agg (E : Vec F S1x2x65536 .i32) (W : Vec F S1x1x65536 .f32) (H A : Vec F S4096x128 .f32) : ℕ → Vec F S4096x128 .f32
  | 0 => A
  | k + 1 => if h : k < k0_t2_loop.trips then
      scat (dsts E ⟨k, h⟩) (wts W ⟨k, h⟩) (gath (srcs E ⟨k, h⟩) H k0_t3_loop.trips) (agg E W H A k) k0_t4_loop.trips
    else agg E W H A k

/-- One more chunk of edges: gather, then scatter. -/
theorem agg_succ (E : Vec F S1x2x65536 .i32) (W : Vec F S1x1x65536 .f32) (H A : Vec F S4096x128 .f32) (k : Fin k0_t2_loop.trips) :
    agg E W H A (k.val + 1) = scat (dsts E k) (wts W k) (gath (srcs E k) H k0_t3_loop.trips) (agg E W H A k.val) k0_t4_loop.trips := dif_pos k.isLt

set_option warn.classDefReducibility false in
/-- THE FIRST LAYER'S MESSAGES: chunk by chunk the edges' weighted source rows are added at their destinations. -/
@[sl_loop] def loop2 (c : Dev nD) (i : grid0.Coords) (arg1 : Memref sig .tc .smem S8 .i32) (harg1 : arg1.IsWhole) (arg2 : Memref sig .tc .vmem S1x1x128 .f32) (harg2 : arg2.IsWhole) (arg3 : Memref sig .tc .vmem S1x4096x128 .f32) (harg3 : arg3.IsWhole) (arg4 : Memref sig .tc .vmem S1x2x65536 .i32) (harg4 : arg4.IsWhole) (arg5 : Memref sig .tc .vmem S1x1x65536 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x1x128 .f32) (harg12 : arg12.IsWhole) (arg13 : Memref sig .tc .vmem S4096x128 .f32) (harg13 : arg13.IsWhole) (arg14 : Memref sig .tc .vmem S4096x128 .f32) (harg14 : arg14.IsWhole) (E : Vec F S1x2x65536 .i32) (W : Vec F S1x1x65536 .f32) (H A : Vec F S4096x128 .f32) :
    Idealize.ShloMosaic.LoopInv (M := MT nD τ sig Unit (Elt F) ℕ (UR sig nD τ) ℕ) Idealize.ShloMosaic.frame (wpE defs₀ Variants.none (c : Thread nD τ) none) Set.univ
      k0_t2_loop.lb k0_t2_loop.ub k0_t2_loop.st k0_t2_ok () (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14) where
  inv k _ := iprop((arg4.view.loc (c : Thread nD τ) ↦[arg4.view.set]{fullShare} arg4.view.rep E) ∗ (arg5.view.loc (c : Thread nD τ) ↦[arg5.view.set]{fullShare} arg5.view.rep W) ∗ (arg13.view.loc (c : Thread nD τ) ↦[arg13.view.set]{fullShare} arg13.view.rep H) ∗ (∃ f, (arg14.view.loc (c : Thread nD τ) ↦[arg14.view.set]{fullShare} f) ∗ ⌜f = arg14.view.rep (agg E W H A k)⌝))
  step k acc := by
    have hk : k.val < 256 := Nat.lt_of_lt_of_le k.isLt k0_t2_abs.2.1
    iintro ⟨H4, H5, H13, ⟨%f14, H14, %h14⟩⟩
    subst h14
    unfold k0_t2_body
    sl_exec
    sl_step
    isplitl [H4]; · iexact H4
    isplitl [H5]; · iexact H5
    isplitl [H13]; · iexact H13
    iexists _; isplitl [H14]; · iexact H14
    ipureintro
    rw [agg_succ]
    simp only [load_eq]

/-- The node features before tile `k` of the first layer's combination: the tiles before `k` are through the layer. -/
def comb (v6 v7 : Vec F S128x128 .f32) (v8 : Vec F S1x128 .f32) (A H : Vec F S4096x128 .f32) : ℕ → Vec F S4096x128 .f32
  | 0 => H
  | k + 1 => if h : k < k0_t5_loop.trips then
      VecWindow.put (comb v6 v7 v8 A H k) (k0_off9 ⟨k, h⟩) S256x128.size
        (k0_pay7 v6 v7 v8 (VecWindow.window (comb v6 v7 v8 A H k) (k0_off9 ⟨k, h⟩) S256x128.size (k0_off9_inb ⟨k, h⟩))
          (VecWindow.window A (k0_off9 ⟨k, h⟩) S256x128.size (k0_off9_inb ⟨k, h⟩)))
    else comb v6 v7 v8 A H k

/-- One more trip gives the first layer's features of one more tile. -/
theorem comb_succ (v6 v7 : Vec F S128x128 .f32) (v8 : Vec F S1x128 .f32) (A H : Vec F S4096x128 .f32) (k : Fin k0_t5_loop.trips) :
    comb v6 v7 v8 A H (k.val + 1) = VecWindow.put (comb v6 v7 v8 A H k.val) (k0_off9 k) S256x128.size
        (k0_pay7 v6 v7 v8 (VecWindow.window (comb v6 v7 v8 A H k.val) (k0_off9 k) S256x128.size (k0_off9_inb k))
          (VecWindow.window A (k0_off9 k) S256x128.size (k0_off9_inb k))) := dif_pos k.isLt

set_option warn.classDefReducibility false in
/-- THE FIRST LAYER'S COMBINATION of each node's features with its aggregate, tile by tile, in place. -/
@[sl_loop] def loop5 (c : Dev nD) (i : grid0.Coords) (arg1 : Memref sig .tc .smem S8 .i32) (harg1 : arg1.IsWhole) (arg2 : Memref sig .tc .vmem S1x1x128 .f32) (harg2 : arg2.IsWhole) (arg3 : Memref sig .tc .vmem S1x4096x128 .f32) (harg3 : arg3.IsWhole) (arg4 : Memref sig .tc .vmem S1x2x65536 .i32) (harg4 : arg4.IsWhole) (arg5 : Memref sig .tc .vmem S1x1x65536 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x1x128 .f32) (harg12 : arg12.IsWhole) (arg13 : Memref sig .tc .vmem S4096x128 .f32) (harg13 : arg13.IsWhole) (arg14 : Memref sig .tc .vmem S4096x128 .f32) (harg14 : arg14.IsWhole) (v6 v7 : Vec F S128x128 .f32) (v8 : Vec F S1x128 .f32) (A H : Vec F S4096x128 .f32) :
    Idealize.ShloMosaic.LoopInv (M := MT nD τ sig Unit (Elt F) ℕ (UR sig nD τ) ℕ) Idealize.ShloMosaic.frame (wpE defs₀ Variants.none (c : Thread nD τ) none) Set.univ
      k0_t5_loop.lb k0_t5_loop.ub k0_t5_loop.st k0_t5_ok () (k0_t5_body (F := F) i arg1 harg1 arg2 harg2 arg3 harg3 arg4 harg4 arg5 harg5 arg6 harg6 arg7 harg7 arg8 harg8 arg9 harg9 arg10 harg10 arg11 harg11 arg12 harg12 arg13 harg13 arg14 harg14 v6 v7 v8) where
  inv k _ := iprop((arg14.view.loc (c : Thread nD τ) ↦[arg14.view.set]{fullShare} arg14.view.rep A) ∗ (∃ f, (arg13.view.loc (c : Thread nD τ) ↦[arg13.view.set]{fullShare} f) ∗ ⌜f = arg13.view.rep (comb v6 v7 v8 A H k)⌝))
  step k acc := by
    have hk : k.val < 16 := Nat.lt_of_lt_of_le k.isLt k0_t5_abs.2.1
    iintro ⟨H14, ⟨%f13, H13, %h13⟩⟩
    subst h13
    unfold k0_t5_body
    sl_exec
    sl_step
    isplitl [H14]; · iexact H14
    iexists _; isplitl [H13]; · iexact H13
    ipureintro
    apply eq_rep harg13
    rw [View.read_writes_rep_unit _ _ _ _ rfl, comb_succ]
    simp only [load_eq]

/-- The rows gathered before tile `k` in the second layer. -/
def gath2 (v31 : Vec F S1x1x256 .i32) (H : Vec F S4096x128 .f32) : ℕ → FVec F S256x128 .f32
  | 0 => k0_pay9 (F := F)
  | k + 1 => if h : k < k0_t7_loop.trips then
      k0_pay10 v31 ⟨k, h⟩ (gath2 v31 H k) (VecWindow.window H (k0_off13 ⟨k, h⟩) S256x128.size (k0_off13_inb ⟨k, h⟩))
    else gath2 v31 H k

/-- The same of the second layer's gather. -/
theorem gath2_succ (v31 : Vec F S1x1x256 .i32) (H : Vec F S4096x128 .f32) (k : Fin k0_t7_loop.trips) :
    gath2 v31 H (k.val + 1) = k0_pay10 v31 k (gath2 v31 H k.val) (VecWindow.window H (k0_off13 k) S256x128.size (k0_off13_inb k)) := dif_pos k.isLt

set_option warn.classDefReducibility false in
/-- THE GATHER of the second layer. -/
@[sl_loop] def loop7 (c : Dev nD) (i : grid0.Coords) (arg1 : Memref sig .tc .smem S8 .i32) (harg1 : arg1.IsWhole) (arg2 : Memref sig .tc .vmem S1x1x128 .f32) (harg2 : arg2.IsWhole) (arg3 : Memref sig .tc .vmem S1x4096x128 .f32) (harg3 : arg3.IsWhole) (arg4 : Memref sig .tc .vmem S1x2x65536 .i32) (harg4 : arg4.IsWhole) (arg5 : Memref sig .tc .vmem S1x1x65536 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x1x128 .f32) (harg12 : arg12.IsWhole) (arg13 : Memref sig .tc .vmem S4096x128 .f32) (harg13 : arg13.IsWhole) (arg14 : Memref sig .tc .vmem S4096x128 .f32) (harg14 : arg14.IsWhole) (v31 : Vec F S1x1x256 .i32) (H : Vec F S4096x128 .f32) :
    Idealize.ShloMosaic.LoopInv (M := MT nD τ sig Unit (Elt F) ℕ (UR sig nD τ) ℕ) Idealize.ShloMosaic.frame (wpE defs₀ Variants.none (c : Thread nD τ) none) Set.univ
      k0_t7_loop.lb k0_t7_loop.ub k0_t7_loop.st k0_t7_ok (k0_pay9 (F := F)) (k0_t7_body (F := F) i arg1 harg1 arg2 harg2 arg3 harg3 arg4 harg4 arg5 harg5 arg6 harg6 arg7 harg7 arg8 harg8 arg9 harg9 arg10 harg10 arg11 harg11 arg12 harg12 arg13 harg13 arg14 harg14 v31) where
  inv k acc := iprop((arg13.view.loc (c : Thread nD τ) ↦[arg13.view.set]{fullShare} arg13.view.rep H) ∗ ⌜acc = gath2 v31 H k⌝)
  step k acc := by
    have hk : k.val < 16 := Nat.lt_of_lt_of_le k.isLt k0_t7_abs.2.1
    iintro ⟨H13, %hacc⟩
    subst hacc
    unfold k0_t7_body
    sl_exec
    sl_step
    isplitl [H13]; · iexact H13
    ipureintro
    rw [gath2_succ]
    simp only [load_eq]

/-- Chunk `k` of the edges and weights as the second layer reads them. -/
abbrev srcs2 (E : Vec F S1x2x65536 .i32) (k : Fin k0_t6_loop.trips) : Vec F S1x1x256 .i32 := VecWindow.window E (k0_off10 k) S1x1x256.size (k0_off10_inb k)
/-- The ends of a chunk of edges, second layer. -/
abbrev dsts2 (E : Vec F S1x2x65536 .i32) (k : Fin k0_t6_loop.trips) : Vec F S1x1x256 .i32 := VecWindow.window E (k0_off11 k) S1x1x256.size (k0_off11_inb k)
/-- The weights of a chunk of edges, second layer. -/
abbrev wts2 (W : Vec F S1x1x65536 .f32) (k : Fin k0_t6_loop.trips) : Vec F S1x1x256 .f32 := VecWindow.window W (k0_off12 k) S1x1x256.size (k0_off12_inb k)

/-- The second layer's aggregate at the one row it needs, before chunk `k` of the edges. -/
def agg2 (v1 : Elt F .i32) (E : Vec F S1x2x65536 .i32) (W : Vec F S1x1x65536 .f32) (H : Vec F S4096x128 .f32) : ℕ → FVec F S1x128 .f32
  | 0 => k0_pay8 (F := F)
  | k + 1 => if h : k < k0_t6_loop.trips then
      k0_pay11 v1 (agg2 v1 E W H k) (dsts2 E ⟨k, h⟩) (wts2 W ⟨k, h⟩) (gath2 (srcs2 E ⟨k, h⟩) H k0_t7_loop.trips)
    else agg2 v1 E W H k

/-- One more chunk of edges in the second layer's aggregate. -/
theorem agg2_succ (v1 : Elt F .i32) (E : Vec F S1x2x65536 .i32) (W : Vec F S1x1x65536 .f32) (H : Vec F S4096x128 .f32) (k : Fin k0_t6_loop.trips) :
    agg2 v1 E W H (k.val + 1) = k0_pay11 v1 (agg2 v1 E W H k.val) (dsts2 E k) (wts2 W k) (gath2 (srcs2 E k) H k0_t7_loop.trips) := dif_pos k.isLt

set_option warn.classDefReducibility false in
/-- THE SECOND LAYER'S MESSAGES into the one row it needs. -/
@[sl_loop] def loop6 (c : Dev nD) (i : grid0.Coords) (arg1 : Memref sig .tc .smem S8 .i32) (harg1 : arg1.IsWhole) (arg2 : Memref sig .tc .vmem S1x1x128 .f32) (harg2 : arg2.IsWhole) (arg3 : Memref sig .tc .vmem S1x4096x128 .f32) (harg3 : arg3.IsWhole) (arg4 : Memref sig .tc .vmem S1x2x65536 .i32) (harg4 : arg4.IsWhole) (arg5 : Memref sig .tc .vmem S1x1x65536 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x1x128 .f32) (harg12 : arg12.IsWhole) (arg13 : Memref sig .tc .vmem S4096x128 .f32) (harg13 : arg13.IsWhole) (arg14 : Memref sig .tc .vmem S4096x128 .f32) (harg14 : arg14.IsWhole) (v1 : Elt F .i32) (E : Vec F S1x2x65536 .i32) (W : Vec F S1x1x65536 .f32) (H : Vec F S4096x128 .f32) :
    Idealize.ShloMosaic.LoopInv (M := MT nD τ sig Unit (Elt F) ℕ (UR sig nD τ) ℕ) Idealize.ShloMosaic.frame (wpE defs₀ Variants.none (c : Thread nD τ) none) Set.univ
      k0_t6_loop.lb k0_t6_loop.ub k0_t6_loop.st k0_t6_ok (k0_pay8 (F := F)) (k0_t6_body (F := F) i arg1 harg1 arg2 harg2 arg3 harg3 arg4 harg4 arg5 harg5 arg6 harg6 arg7 harg7 arg8 harg8 arg9 harg9 arg10 harg10 arg11 harg11 arg12 harg12 arg13 harg13 arg14 harg14 v1) where
  inv k acc := iprop((arg4.view.loc (c : Thread nD τ) ↦[arg4.view.set]{fullShare} arg4.view.rep E) ∗ (arg5.view.loc (c : Thread nD τ) ↦[arg5.view.set]{fullShare} arg5.view.rep W) ∗ (arg13.view.loc (c : Thread nD τ) ↦[arg13.view.set]{fullShare} arg13.view.rep H) ∗ ⌜acc = agg2 v1 E W H k⌝)
  step k acc := by
    have hk : k.val < 256 := Nat.lt_of_lt_of_le k.isLt k0_t6_abs.2.1
    iintro ⟨H4, H5, H13, %hacc⟩
    subst hacc
    unfold k0_t6_body
    sl_exec
    sl_step
    isplitl [H4]; · iexact H4
    isplitl [H5]; · iexact H5
    isplitl [H13]; · iexact H13
    ipureintro
    rw [agg2_succ]
    simp only [load_eq]

/-- The row of `H` at the graph's own position, as far as the tiles before `k` hold it. -/
def pick (v1 : Elt F .i32) (H : Vec F S4096x128 .f32) : ℕ → FVec F S1x128 .f32
  | 0 => k0_pay12 (F := F)
  | k + 1 => if h : k < k0_t8_loop.trips then
      k0_pay13 v1 ⟨k, h⟩ (pick v1 H k) (VecWindow.window H (k0_off14 ⟨k, h⟩) S256x128.size (k0_off14_inb ⟨k, h⟩))
    else pick v1 H k

/-- One more tile searched for the wanted row. -/
theorem pick_succ (v1 : Elt F .i32) (H : Vec F S4096x128 .f32) (k : Fin k0_t8_loop.trips) :
    pick v1 H (k.val + 1) = k0_pay13 v1 k (pick v1 H k.val) (VecWindow.window H (k0_off14 k) S256x128.size (k0_off14_inb k)) := dif_pos k.isLt

set_option warn.classDefReducibility false in
/-- THE SELECTION of the one row, tile by tile. -/
@[sl_loop] def loop8 (c : Dev nD) (i : grid0.Coords) (arg1 : Memref sig .tc .smem S8 .i32) (harg1 : arg1.IsWhole) (arg2 : Memref sig .tc .vmem S1x1x128 .f32) (harg2 : arg2.IsWhole) (arg3 : Memref sig .tc .vmem S1x4096x128 .f32) (harg3 : arg3.IsWhole) (arg4 : Memref sig .tc .vmem S1x2x65536 .i32) (harg4 : arg4.IsWhole) (arg5 : Memref sig .tc .vmem S1x1x65536 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x1x128 .f32) (harg12 : arg12.IsWhole) (arg13 : Memref sig .tc .vmem S4096x128 .f32) (harg13 : arg13.IsWhole) (arg14 : Memref sig .tc .vmem S4096x128 .f32) (harg14 : arg14.IsWhole) (v1 : Elt F .i32) (H : Vec F S4096x128 .f32) :
    Idealize.ShloMosaic.LoopInv (M := MT nD τ sig Unit (Elt F) ℕ (UR sig nD τ) ℕ) Idealize.ShloMosaic.frame (wpE defs₀ Variants.none (c : Thread nD τ) none) Set.univ
      k0_t8_loop.lb k0_t8_loop.ub k0_t8_loop.st k0_t8_ok (k0_pay12 (F := F)) (k0_t8_body (F := F) i arg1 harg1 arg2 harg2 arg3 harg3 arg4 harg4 arg5 harg5 arg6 harg6 arg7 harg7 arg8 harg8 arg9 harg9 arg10 harg10 arg11 harg11 arg12 harg12 arg13 harg13 arg14 harg14 v1) where
  inv k acc := iprop((arg13.view.loc (c : Thread nD τ) ↦[arg13.view.set]{fullShare} arg13.view.rep H) ∗ ⌜acc = pick v1 H k⌝)
  step k acc := by
    have hk : k.val < 16 := Nat.lt_of_lt_of_le k.isLt k0_t8_abs.2.1
    iintro ⟨H13, %hacc⟩
    subst hacc
    unfold k0_t8_body
    sl_exec
    sl_step
    isplitl [H13]; · iexact H13
    ipureintro
    rw [pick_succ]
    simp only [load_eq]

end Cert.KernelIdeal.Sgcm

end
-- ==== Proof.IdealBody.lean ====
/- The kernel's body at one graph: from windows holding given values it leaves the graph's output row, and the scratch
   buffers at some contents. -/
module

public import proofs.«01_k».proof.Proof.IdealLoops

@[expose] public section

set_option maxRecDepth 16384

noncomputable section

namespace Cert.KernelIdeal.Sgcm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The number of the graph's own row, read from the table. -/
def pos (i : grid0.Coords) (T : Vec F S8 .i32) : Elt F .i32 :=
  VecWindow.window T (k0_off1 i) S1.size (k0_off1_inb i) (Shape.Idx.first (numel1_S1.symm ▸ Nat.one_pos))

/-- The node features the first layer starts from; their aggregate; the node features after it. -/
def feat0 (i : grid0.Coords) (T : Vec F S8 .i32) (x : Vec F S1x1x128 .f32) (N : Vec F S1x4096x128 .f32) (X : Vec F S4096x128 .f32) : Vec F S4096x128 .f32 :=
  rows (pos i T) x N X k0_t1_loop.trips
/-- What the nodes gather in the first layer, after all chunks of the edges. -/
def msg1 (E : Vec F S1x2x65536 .i32) (W : Vec F S1x1x65536 .f32) (H Y : Vec F S4096x128 .f32) : Vec F S4096x128 .f32 :=
  agg E W H (zeros Y k0_t1_loop.trips) k0_t2_loop.trips
/-- The features after the first layer. -/
def feat1 (w1s w1n : Vec F S128x128 .f32) (b1 : Vec F S1x128 .f32) (A H : Vec F S4096x128 .f32) : Vec F S4096x128 .f32 :=
  comb w1s w1n b1 A H k0_t5_loop.trips
/-- The row the second layer gives from the features `H` after the first. -/
def last (v1 : Elt F .i32) (E : Vec F S1x2x65536 .i32) (W : Vec F S1x1x65536 .f32) (w2s w2n : Vec F S128x128 .f32) (b2 : Vec F S1x128 .f32)
    (H : Vec F S4096x128 .f32) : Vec F S1x1x128 .f32 :=
  k0_pay1 (agg2 v1 E W H k0_t6_loop.trips) (k0_pay14 (pick v1 H k0_t8_loop.trips) w2s) w2n b2
/-- THE OUTPUT ROW of the graph, the scratch buffers holding `X` and `Y` at the start. -/
def outRow (i : grid0.Coords) (T : Vec F S8 .i32) (x : Vec F S1x1x128 .f32) (N : Vec F S1x4096x128 .f32)
    (E : Vec F S1x2x65536 .i32) (W : Vec F S1x1x65536 .f32) (w1s w1n : Vec F S128x128 .f32) (b1 : Vec F S1x128 .f32)
    (w2s w2n : Vec F S128x128 .f32) (b2 : Vec F S1x128 .f32) (X Y : Vec F S4096x128 .f32) : Vec F S1x1x128 .f32 :=
  last (pos i T) E W w2s w2n b2 (feat1 w1s w1n b1 (msg1 E W (feat0 i T x N X) Y) (feat0 i T x N X))

/-- A load of the whole view reads the whole. -/
theorem load_full {κ : Kind} {sp : Space} {s : Shape} {e : EltTy} (v : View sig κ sp s e) (X : s.Idx → Elt F e) {off : Fin s.rank → ℕ}
    (inb : ∀ a, off a + s.size a ≤ s.size a) :
    v.readAt (Elt F) (Rect.unit off s.size inb).toLoadRect (v.rep X) = X := View.readAt_rep_full v X inb

/-- The recursions opened by one trip at their end, folded back. -/
theorem rows_fold (v1 : Elt F .i32) (v2 : Vec F S1x1x128 .f32) (N : Vec F S1x4096x128 .f32) (X : Vec F S4096x128 .f32) :
    (if h : 15 < k0_t1_loop.trips then
      VecWindow.put (rows v1 v2 N X 15) (k0_off3 ⟨15, h⟩) S256x128.size
        (k0_pay2 v1 v2 ⟨15, h⟩ (VecWindow.window N (k0_off2 ⟨15, h⟩) S1x256x128.size (k0_off2_inb ⟨15, h⟩)))
    else rows v1 v2 N X 15) = rows v1 v2 N X k0_t1_loop.trips := rfl
/-- The last trip of clearing completes the cleared array. -/
theorem zeros_fold (X : Vec F S4096x128 .f32) :
    (if h : 15 < k0_t1_loop.trips then VecWindow.put (zeros X 15) (k0_off3 ⟨15, h⟩) S256x128.size (k0_pay3 (F := F)) else zeros X 15)
      = zeros X k0_t1_loop.trips := rfl

/-- The body at a graph: it keeps its inputs and leaves the output row in the result block. -/
theorem body_wp (c : Dev nD) (i : grid0.Coords) (arg1 : Memref sig .tc .smem S8 .i32) (harg1 : arg1.IsWhole) (arg2 : Memref sig .tc .vmem S1x1x128 .f32) (harg2 : arg2.IsWhole) (arg3 : Memref sig .tc .vmem S1x4096x128 .f32) (harg3 : arg3.IsWhole) (arg4 : Memref sig .tc .vmem S1x2x65536 .i32) (harg4 : arg4.IsWhole) (arg5 : Memref sig .tc .vmem S1x1x65536 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x1x128 .f32) (harg12 : arg12.IsWhole) (arg13 : Memref sig .tc .vmem S4096x128 .f32) (harg13 : arg13.IsWhole) (arg14 : Memref sig .tc .vmem S4096x128 .f32) (harg14 : arg14.IsWhole) (q : PosShare TreeShare) (T : Vec F S8 .i32) (x : Vec F S1x1x128 .f32) (N : Vec F S1x4096x128 .f32)
    (E : Vec F S1x2x65536 .i32) (W : Vec F S1x1x65536 .f32) (w1s w1n : Vec F S128x128 .f32) (b1 : Vec F S1x128 .f32)
    (w2s w2n : Vec F S128x128 .f32) (b2 : Vec F S1x128 .f32) (O : Vec F S1x1x128 .f32) (X Y : Vec F S4096x128 .f32) :
    iprop((arg1.view.loc (c : Thread nD τ) ↦[arg1.view.set]{q} arg1.view.rep T) ∗ (arg2.view.loc (c : Thread nD τ) ↦[arg2.view.set]{fullShare} arg2.view.rep x) ∗ (arg3.view.loc (c : Thread nD τ) ↦[arg3.view.set]{fullShare} arg3.view.rep N) ∗ (arg4.view.loc (c : Thread nD τ) ↦[arg4.view.set]{fullShare} arg4.view.rep E) ∗ (arg5.view.loc (c : Thread nD τ) ↦[arg5.view.set]{fullShare} arg5.view.rep W) ∗ (arg6.view.loc (c : Thread nD τ) ↦[arg6.view.set]{fullShare} arg6.view.rep w1s) ∗ (arg7.view.loc (c : Thread nD τ) ↦[arg7.view.set]{fullShare} arg7.view.rep w1n) ∗ (arg8.view.loc (c : Thread nD τ) ↦[arg8.view.set]{fullShare} arg8.view.rep b1) ∗ (arg9.view.loc (c : Thread nD τ) ↦[arg9.view.set]{fullShare} arg9.view.rep w2s) ∗ (arg10.view.loc (c : Thread nD τ) ↦[arg10.view.set]{fullShare} arg10.view.rep w2n) ∗ (arg11.view.loc (c : Thread nD τ) ↦[arg11.view.set]{fullShare} arg11.view.rep b2) ∗ (arg12.view.loc (c : Thread nD τ) ↦[arg12.view.set]{fullShare} arg12.view.rep O) ∗ (arg13.view.loc (c : Thread nD τ) ↦[arg13.view.set]{fullShare} arg13.view.rep X) ∗ (arg14.view.loc (c : Thread nD τ) ↦[arg14.view.set]{fullShare} arg14.view.rep Y))
    ⊢ wp (M := MT nD τ sig Unit (Elt F) ℕ (UR sig nD τ) ℕ) Idealize.ShloMosaic.frame (wpE defs₀ Variants.none (c : Thread nD τ) none) Set.univ
        (cc0__sgcm_kernel (F := F) i arg1 harg1 arg2 harg2 arg3 harg3 arg4 harg4 arg5 harg5 arg6 harg6 arg7 harg7 arg8 harg8 arg9 harg9 arg10 harg10 arg11 harg11 arg12 harg12 arg13 harg13 arg14 harg14)
        fun _ => iprop((arg1.view.loc (c : Thread nD τ) ↦[arg1.view.set]{q} arg1.view.rep T) ∗ (arg2.view.loc (c : Thread nD τ) ↦[arg2.view.set]{fullShare} arg2.view.rep x) ∗ (arg3.view.loc (c : Thread nD τ) ↦[arg3.view.set]{fullShare} arg3.view.rep N) ∗ (arg4.view.loc (c : Thread nD τ) ↦[arg4.view.set]{fullShare} arg4.view.rep E) ∗ (arg5.view.loc (c : Thread nD τ) ↦[arg5.view.set]{fullShare} arg5.view.rep W) ∗ (arg6.view.loc (c : Thread nD τ) ↦[arg6.view.set]{fullShare} arg6.view.rep w1s) ∗ (arg7.view.loc (c : Thread nD τ) ↦[arg7.view.set]{fullShare} arg7.view.rep w1n) ∗ (arg8.view.loc (c : Thread nD τ) ↦[arg8.view.set]{fullShare} arg8.view.rep b1) ∗ (arg9.view.loc (c : Thread nD τ) ↦[arg9.view.set]{fullShare} arg9.view.rep w2s) ∗ (arg10.view.loc (c : Thread nD τ) ↦[arg10.view.set]{fullShare} arg10.view.rep w2n) ∗ (arg11.view.loc (c : Thread nD τ) ↦[arg11.view.set]{fullShare} arg11.view.rep b2) ∗ (∃ f, (arg12.view.loc (c : Thread nD τ) ↦[arg12.view.set]{fullShare} f) ∗ ⌜arg12.view.read (Elt F) f = outRow i T x N E W w1s w1n b1 w2s w2n b2 X Y⌝) ∗ (∃ f, (arg13.view.loc (c : Thread nD τ) ↦[arg13.view.set]{fullShare} f)) ∗ (∃ f, (arg14.view.loc (c : Thread nD τ) ↦[arg14.view.set]{fullShare} f))) := by
  rw [cc0__sgcm_kernel_eq_skeleton]
  iintro ⟨H1, H2, H3, H4, H5, H6, H7, H8, H9, H10, H11, H12, H13, H14⟩
  unfold cc0__sgcm_kernel_skel
  rw [k0_part1_eq_skeleton]
  unfold k0_part1_skel
  simp only [bind_assoc, pure_bind]
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iexists _
    isplitl [H12]; · iexact H12
    ipureintro
    refine (View.read_writes_full _ _ _ _ _).trans ?_
    rw [show body_wp.sl.r i arg1 T = pos i T from congrFun (load_eq arg1.view T _) _,
      show View.readAt (Elt F) arg2.view (Rect.unit ![0, 0, 0] ![1, 1, 128] inb_S1x1x128_S1x1x128_0_0_0).toLoadRect (arg2.view.rep x) = x from load_full _ _ _,
      show View.readAt (Elt F) arg6.view (Rect.unit ![0, 0] ![128, 128] inb_S128x128_S128x128_0_0).toLoadRect (arg6.view.rep w1s) = w1s from load_full _ _ _,
      show View.readAt (Elt F) arg7.view (Rect.unit ![0, 0] ![128, 128] inb_S128x128_S128x128_0_0).toLoadRect (arg7.view.rep w1n) = w1n from load_full _ _ _,
      show View.readAt (Elt F) arg8.view (Rect.unit ![0, 0] ![1, 128] inb_S1x128_S1x128_0_0).toLoadRect (arg8.view.rep b1) = b1 from load_full _ _ _,
      show View.readAt (Elt F) arg9.view (Rect.unit ![0, 0] ![128, 128] inb_S128x128_S128x128_0_0).toLoadRect (arg9.view.rep w2s) = w2s from load_full _ _ _,
      show View.readAt (Elt F) arg10.view (Rect.unit ![0, 0] ![128, 128] inb_S128x128_S128x128_0_0).toLoadRect (arg10.view.rep w2n) = w2n from load_full _ _ _,
      show View.readAt (Elt F) arg11.view (Rect.unit ![0, 0] ![1, 128] inb_S1x128_S1x128_0_0).toLoadRect (arg11.view.rep b2) = b2 from load_full _ _ _]
    simp only [rows_fold, zeros_fold]
    rfl
  isplitl [H13]
  · iexists _; iexact H13
  iexists _; iexact H14

end Cert.KernelIdeal.Sgcm

end
-- ==== Proof.IdealTiles.lean ====
/- A loop that goes through a 4096 x 128 array by tiles of 256 rows, each trip replacing its own tile by a function of the
   tile: what the array holds at an index afterwards. -/
module

public import proofs.«01_k».proof.Proof.Gen.KernelIdeal
public import Idealize.ShloMosaic.Lib.VecWindow
public import Idealize.ShloMosaic.Lib.ValueIdxCoords

@[expose] public section

noncomputable section

namespace Cert.KernelIdeal.Sgcm

open Cert.KernelIdeal
open Idealize.ShloMosaic Idealize.ShloMosaic.ValueIdx

variable {α : Type}

/-- An index of the array is a row and a column. -/
abbrev at2 (a : Fin 4096) (b : Fin 128) : S4096x128.Idx := ix2 a b
/-- An index of a tile likewise. -/
abbrev in2 (a : Fin 256) (b : Fin 128) : S256x128.Idx := ix2 a b
/-- The row within its tile. -/
abbrev loc (a : Fin 4096) : Fin 256 := ⟨a.val % 256, Nat.mod_lt _ (by decide)⟩
/-- Row `l` of tile `t`. -/
abbrev glob {T : ℕ} (hT : T ≤ 16) (t : Fin T) (l : Fin 256) : Fin 4096 := ⟨256 * t.val + l.val, by have := t.isLt; have := l.isLt; omega⟩

/-- A tile of the array, read at an index. -/
theorem window_tile {T : ℕ} (hT : T ≤ 16) (x : S4096x128.Idx → α) (t : Fin T) (off : Fin 2 → ℕ) (hoff : off = ![256 * t.val, 0])
    (inb : ∀ a, off a + S256x128.size a ≤ S4096x128.size a) (l : Fin 256) (b : Fin 128) :
    VecWindow.window (s := S4096x128) x off S256x128.size inb (in2 l b) = x (at2 (glob hT t l) b) := by
  subst hoff
  refine congrArg x (funext fun d => Fin.ext ?_)
  match d with
  | ⟨0, _⟩ => show 256 * t.val + 1 * l.val = 256 * t.val + l.val; omega
  | ⟨1, _⟩ => show 0 + 1 * b.val = b.val; omega

/-- A tile put into the array, read at an index: inside the tile's rows the tile, elsewhere what was there. -/
theorem put_tile (x : S4096x128.Idx → α) (t : ℕ) (off : Fin 2 → ℕ) (hoff : off = ![256 * t, 0])
    (w : S256x128.Idx → α) (a : Fin 4096) (b : Fin 128) :
    VecWindow.put (s := S4096x128) x off S256x128.size w (at2 a b) = if a.val / 256 = t then w (in2 (loc a) b) else x (at2 a b) := by
  subst hoff
  unfold VecWindow.put
  by_cases h : a.val / 256 = t
  · rw [if_pos h, dif_pos]
    · refine congrArg w (funext fun d => Fin.ext ?_)
      match d with
      | ⟨0, _⟩ => show a.val - 256 * t = a.val % 256; omega
      | ⟨1, _⟩ => show b.val - 0 = b.val; omega
    · intro d
      match d with
      | ⟨0, _⟩ => show 256 * t ≤ a.val ∧ a.val < 256 * t + 256; omega
      | ⟨1, _⟩ => show 0 ≤ b.val ∧ b.val < 0 + 128; have := b.isLt; omega
  · rw [if_neg h, dif_neg]
    intro hall
    have h0 : 256 * t ≤ a.val ∧ a.val < 256 * t + 256 := hall (0 : Fin 2)
    exact h (by omega)

/-- THE ARRAY BY TILES: before trip `k` the tiles before `k` are through the step, the others as at the start. -/
theorem tiles_at {T : ℕ} (hT : T ≤ 16) (f : ℕ → S4096x128.Idx → α) (off : Fin T → Fin 2 → ℕ) (hoff : ∀ k, off k = ![256 * k.val, 0])
    (inb : ∀ k a, off k a + S256x128.size a ≤ S4096x128.size a) (g : Fin T → (S256x128.Idx → α) → S256x128.Idx → α)
    (hs : ∀ k : Fin T, f (k.val + 1) = VecWindow.put (s := S4096x128) (f k.val) (off k) S256x128.size
        (g k (VecWindow.window (s := S4096x128) (f k.val) (off k) S256x128.size (inb k))))
    (k : ℕ) (hk : k ≤ T) (a : Fin 4096) (b : Fin 128) :
    f k (at2 a b) = if h : a.val / 256 < k then
        g ⟨a.val / 256, by omega⟩ (VecWindow.window (s := S4096x128) (f 0) (off ⟨a.val / 256, by omega⟩) S256x128.size (inb _)) (in2 (loc a) b)
      else f 0 (at2 a b) := by
  induction k generalizing a b with
  | zero => rw [dif_neg (by omega)]
  | succ k ih =>
    have hw : VecWindow.window (s := S4096x128) (f k) (off ⟨k, by omega⟩) S256x128.size (inb _)
        = VecWindow.window (s := S4096x128) (f 0) (off ⟨k, by omega⟩) S256x128.size (inb _) := by
      funext y
      obtain ⟨l, c, rfl⟩ : ∃ l c, y = in2 l c := ⟨y 0, y 1, eq_ix2 y⟩
      rw [window_tile hT _ ⟨k, by omega⟩ _ (hoff _), window_tile hT _ ⟨k, by omega⟩ _ (hoff _), ih (by omega), dif_neg]
      show ¬ (256 * k + l.val) / 256 < k
      have := l.isLt; omega
    rw [hs ⟨k, by omega⟩, put_tile _ k _ (hoff ⟨k, by omega⟩)]
    by_cases h : a.val / 256 = k
    · subst h
      rw [if_pos rfl, dif_pos (by omega), hw]
    · rw [if_neg h]
      show f k (at2 a b) = _
      rw [ih (by omega)]
      by_cases h2 : a.val / 256 < k
      · rw [dif_pos h2, dif_pos (by omega)]
      · rw [dif_neg h2, dif_neg (by omega)]

/-- After the sixteen tiles every row is through the step. -/
theorem tiles_all {T : ℕ} (hT : T = 16) (f : ℕ → S4096x128.Idx → α) (off : Fin T → Fin 2 → ℕ) (hoff : ∀ k, off k = ![256 * k.val, 0])
    (inb : ∀ k a, off k a + S256x128.size a ≤ S4096x128.size a) (g : Fin T → (S256x128.Idx → α) → S256x128.Idx → α)
    (hs : ∀ k : Fin T, f (k.val + 1) = VecWindow.put (s := S4096x128) (f k.val) (off k) S256x128.size
        (g k (VecWindow.window (s := S4096x128) (f k.val) (off k) S256x128.size (inb k))))
    (a : Fin 4096) (b : Fin 128) :
    f T (at2 a b) = g ⟨a.val / 256, by have := a.isLt; omega⟩
        (VecWindow.window (s := S4096x128) (f 0) (off ⟨a.val / 256, by have := a.isLt; omega⟩) S256x128.size (inb _)) (in2 (loc a) b) := by
  rw [tiles_at (by omega) f off hoff inb g hs T le_rfl a b, dif_pos (by have := a.isLt; omega)]

end Cert.KernelIdeal.Sgcm

end
-- ==== Proof.IdealRun.lean ====
/- The launch: the eight points of the grid run the body one graph after another, so that the program leaves its arguments
   as they were and its result holds each graph's output row. -/
module

public import proofs.«01_k».proof.Proof.IdealBody
public import proofs.«01_k».proof.Proof.IdealTiles
public import proofs.«01_k».proof.Proof.Gen.KernelIdeal.Launch
public import Idealize.ShloMosaic.Lib.Pipeline.FrameBody
public import Idealize.ShloMosaic.Lib.Pipeline.FrameSuffix
public import Idealize.ShloMosaic.Lib.Pipeline.TableIdle
public import Idealize.ShloMosaic.Lib.Pipeline.Value

@[expose] public section

set_option maxRecDepth 16384

noncomputable section

namespace Cert.KernelIdeal.Sgcm

open Cert.KernelIdeal Cert.KernelIdeal.Gen
open Idealize.ShloMosaic Idealize.ShloMosaic.TcCoe Idealize.ShloMosaic.Tactic Idealize.ShloMosaic.ValueIdx
open Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The output row does not depend on what the scratch buffers hold at the start -/

/-- How often loop 1 runs. -/
theorem trips1 : k0_t1_loop.trips = 16 := by decide +kernel

/-- The features at an index: the tile's value. -/
theorem feat0_at (i : grid0.Coords) (T : Vec F S8 .i32) (x : Vec F S1x1x128 .f32) (N : Vec F S1x4096x128 .f32) (X : Vec F S4096x128 .f32)
    (a : Fin 4096) (b : Fin 128) :
    feat0 i T x N X (at2 a b) = k0_pay2 (pos i T) x ⟨a.val / 256, by have := a.isLt; rw [trips1]; omega⟩
      (VecWindow.window N (k0_off2 ⟨a.val / 256, by have := a.isLt; rw [trips1]; omega⟩) S1x256x128.size (k0_off2_inb _)) (in2 (loc a) b) :=
  tiles_all trips1 (rows (pos i T) x N X) k0_off3 k0_off3_eq k0_off3_inb
    (fun k _ => k0_pay2 (pos i T) x k (VecWindow.window N (k0_off2 k) S1x256x128.size (k0_off2_inb k))) (fun k => rows_succ _ _ _ _ k) a b

/-- The cleared aggregate at an index. -/
theorem zeros_at (Y : Vec F S4096x128 .f32) (a : Fin 4096) (b : Fin 128) :
    zeros Y k0_t1_loop.trips (at2 a b) = k0_pay3 (F := F) (in2 (loc a) b) :=
  tiles_all trips1 (zeros Y) k0_off3 k0_off3_eq k0_off3_inb (fun k _ => k0_pay3 (F := F)) (fun k => zeros_succ _ k) a b

/-- The features at the start do not depend on what the scratch held. -/
theorem feat0_any (i : grid0.Coords) (T : Vec F S8 .i32) (x : Vec F S1x1x128 .f32) (N : Vec F S1x4096x128 .f32) (X X' : Vec F S4096x128 .f32) :
    feat0 i T x N X = feat0 i T x N X' := by
  funext p
  obtain ⟨a, b, rfl⟩ : ∃ a b, p = at2 a b := ⟨p 0, p 1, eq_ix2 p⟩
  rw [feat0_at, feat0_at]

/-- Nor does the cleared aggregate. -/
theorem zeros_any (Y Y' : Vec F S4096x128 .f32) : zeros Y k0_t1_loop.trips = zeros Y' k0_t1_loop.trips := by
  funext p
  obtain ⟨a, b, rfl⟩ : ∃ a b, p = at2 a b := ⟨p 0, p 1, eq_ix2 p⟩
  rw [zeros_at, zeros_at]

/-- Some contents of a scratch buffer. -/
def blank : Vec F S4096x128 .f32 := fun p => k0_pay3 (F := F) (in2 (loc (p 0)) (p 1))

/-- THE OUTPUT ROW of a graph, as a function of its inputs only. -/
def outOf (i : grid0.Coords) (T : Vec F S8 .i32) (x : Vec F S1x1x128 .f32) (N : Vec F S1x4096x128 .f32)
    (E : Vec F S1x2x65536 .i32) (W : Vec F S1x1x65536 .f32) (w1s w1n : Vec F S128x128 .f32) (b1 : Vec F S1x128 .f32)
    (w2s w2n : Vec F S128x128 .f32) (b2 : Vec F S1x128 .f32) : Vec F S1x1x128 .f32 :=
  outRow i T x N E W w1s w1n b1 w2s w2n b2 blank blank

/-- So the output row does not depend on what either scratch array held. -/
theorem outRow_any (i : grid0.Coords) (T : Vec F S8 .i32) (x : Vec F S1x1x128 .f32) (N : Vec F S1x4096x128 .f32)
    (E : Vec F S1x2x65536 .i32) (W : Vec F S1x1x65536 .f32) (w1s w1n : Vec F S128x128 .f32) (b1 : Vec F S1x128 .f32)
    (w2s w2n : Vec F S128x128 .f32) (b2 : Vec F S1x128 .f32) (X Y : Vec F S4096x128 .f32) :
    outRow i T x N E W w1s w1n b1 w2s w2n b2 X Y = outOf i T x N E W w1s w1n b1 w2s w2n b2 := by
  unfold outOf outRow msg1
  rw [feat0_any i T x N X blank, zeros_any Y blank]

/-- THE BODY AT ONE GRAPH: from its windows and table it leaves the output row in the output window, the scratch buffers at any contents. -/
theorem body_owns (c : Dev nD) (i : grid0.Coords) (arg1 : Memref sig .tc .smem S8 .i32) (harg1 : arg1.IsWhole) (arg2 : Memref sig .tc .vmem S1x1x128 .f32) (harg2 : arg2.IsWhole) (arg3 : Memref sig .tc .vmem S1x4096x128 .f32) (harg3 : arg3.IsWhole) (arg4 : Memref sig .tc .vmem S1x2x65536 .i32) (harg4 : arg4.IsWhole) (arg5 : Memref sig .tc .vmem S1x1x65536 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x1x128 .f32) (harg12 : arg12.IsWhole) (arg13 : Memref sig .tc .vmem S4096x128 .f32) (harg13 : arg13.IsWhole) (arg14 : Memref sig .tc .vmem S4096x128 .f32) (harg14 : arg14.IsWhole) (q : PosShare TreeShare) (T : Vec F S8 .i32) (x : Vec F S1x1x128 .f32) (N : Vec F S1x4096x128 .f32)
    (E : Vec F S1x2x65536 .i32) (W : Vec F S1x1x65536 .f32) (w1s w1n : Vec F S128x128 .f32) (b1 : Vec F S1x128 .f32)
    (w2s w2n : Vec F S128x128 .f32) (b2 : Vec F S1x128 .f32) (O : Vec F S1x1x128 .f32) :
    iprop((arg1.view.loc (c : Thread nD τ) ↦[arg1.view.set]{q} arg1.view.rep T) ∗ owns (c : Thread nD τ) arg2 fullShare x ∗ owns (c : Thread nD τ) arg3 fullShare N ∗ owns (c : Thread nD τ) arg4 fullShare E ∗ owns (c : Thread nD τ) arg5 fullShare W ∗ owns (c : Thread nD τ) arg6 fullShare w1s ∗ owns (c : Thread nD τ) arg7 fullShare w1n ∗ owns (c : Thread nD τ) arg8 fullShare b1 ∗ owns (c : Thread nD τ) arg9 fullShare w2s ∗ owns (c : Thread nD τ) arg10 fullShare w2n ∗ owns (c : Thread nD τ) arg11 fullShare b2 ∗ owns (c : Thread nD τ) arg12 fullShare O ∗ (∃ f, (arg13.view.loc (c : Thread nD τ) ↦[arg13.view.set]{fullShare} f)) ∗ (∃ f, (arg14.view.loc (c : Thread nD τ) ↦[arg14.view.set]{fullShare} f)))
    ⊢ wp (M := 𝕄) Idealize.ShloMosaic.frame (wpE defs₀ Variants.none (c : Thread nD τ) none) Set.univ
        (cc0__sgcm_kernel (F := F) i arg1 harg1 arg2 harg2 arg3 harg3 arg4 harg4 arg5 harg5 arg6 harg6 arg7 harg7 arg8 harg8 arg9 harg9 arg10 harg10 arg11 harg11 arg12 harg12 arg13 harg13 arg14 harg14)
        fun _ => iprop((arg1.view.loc (c : Thread nD τ) ↦[arg1.view.set]{q} arg1.view.rep T) ∗ owns (c : Thread nD τ) arg2 fullShare x ∗ owns (c : Thread nD τ) arg3 fullShare N ∗ owns (c : Thread nD τ) arg4 fullShare E ∗ owns (c : Thread nD τ) arg5 fullShare W ∗ owns (c : Thread nD τ) arg6 fullShare w1s ∗ owns (c : Thread nD τ) arg7 fullShare w1n ∗ owns (c : Thread nD τ) arg8 fullShare b1 ∗ owns (c : Thread nD τ) arg9 fullShare w2s ∗ owns (c : Thread nD τ) arg10 fullShare w2n ∗ owns (c : Thread nD τ) arg11 fullShare b2 ∗ owns (c : Thread nD τ) arg12 fullShare (outOf i T x N E W w1s w1n b1 w2s w2n b2) ∗ (∃ f, (arg13.view.loc (c : Thread nD τ) ↦[arg13.view.set]{fullShare} f)) ∗ (∃ f, (arg14.view.loc (c : Thread nD τ) ↦[arg14.view.set]{fullShare} f))) := by
  simp only [owns_eq_rep]
  iintro ⟨H1, H2, H3, H4, H5, H6, H7, H8, H9, H10, H11, H12, ⟨%X, H13⟩, ⟨%Y, H14⟩⟩
  obtain ⟨X, rfl⟩ : ∃ X', X = arg13.view.rep X' := ⟨_, eq_rep harg13 rfl⟩
  obtain ⟨Y, rfl⟩ : ∃ Y', Y = arg14.view.rep Y' := ⟨_, eq_rep harg14 rfl⟩
  iapply (wp_wand_r Idealize.ShloMosaic.frame (wpE (defs₀ (F := F)) Variants.none (c : Thread nD τ) none) Set.univ)
  isplitl [H1 H2 H3 H4 H5 H6 H7 H8 H9 H10 H11 H12 H13 H14]
  · iapply (body_wp c i arg1 harg1 arg2 harg2 arg3 harg3 arg4 harg4 arg5 harg5 arg6 harg6 arg7 harg7 arg8 harg8 arg9 harg9 arg10 harg10 arg11 harg11 arg12 harg12 arg13 harg13 arg14 harg14 q T x N E W w1s w1n b1 w2s w2n b2 O X Y)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · iintro %_ ⟨H1, H2, H3, H4, H5, H6, H7, H8, H9, H10, H11, ⟨%fo, H12, %ho⟩, H13, H14⟩
    rw [eq_rep harg12 ho, outRow_any]
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

/-! ## The launch's data -/

variable (m : (ℓ : Loc nD τ sig) → Buf (Elt F) ℓ)

/-- The contents of the core's buffers when the grid is entered: the two bias reshapes done. -/
def V0 (c : Dev nD) : Valuation τ sig (Elt F) := StableHlo.after ([hostOps0] : List (List (HloOp τ sig (Elt F)))).flatten fun b => m (c, b)
/-- The same by reference. -/
def V (c : Dev nD) (b : Ref sig .tc) : Buf (Elt F) ((c : Thread nD τ).loc b) := V0 m c (Proc.devRef .tc b)
/-- The table of the graphs' own rows. -/
def tbl : pre0.Contents (Elt F) := fun j => V m (0 : Dev nD) (pre0.ref j)
/-- The positions are as launched. -/
theorem V_pre (c : Dev nD) (j : Fin 1) : V m c (pre0.ref j) = tbl m j := by
  obtain rfl : c = 0 := Subsingleton.elim _ _; rfl
/-- It is admissible: no window reads it. -/
def adm : (pcfg0 (F := F)).Adm := ⟨tbl m, trivial⟩
/-- The pipeline at these positions. -/
abbrev cfgM : Pipeline.Cfg sig Λ₀ := cfg0 (adm m)

/-- The block of window `w` at point `t`, of the contents at entry. -/
abbrev blkOf (c : Dev nD) (w : Fin (cfgM m).W) (t : Fin (cfgM m).N) : ((cfgM m).win w).block.Idx → Elt F ((cfgM m).win w).elt :=
  (((cfgM m).win w).blk t).view.read (Elt F) (V m c (Pipeline.arrRef spec0 w))

/-- The output row at point `t`. -/
def outAt (c : Dev nD) (t : Fin (cfgM m).N) : Vec F S1x1x128 .f32 :=
  outOf (grid0.coords t) (tbl m 0) (blkOf m c 0 t) (blkOf m c 1 t) (blkOf m c 2 t) (blkOf m c 3 t) (blkOf m c 4 t) (blkOf m c 5 t)
    (blkOf m c 6 t) (blkOf m c 7 t) (blkOf m c 8 t) (blkOf m c 9 t)

/-- What each window holds at and after each point. -/
def dats (_ : Fin 1) (c : Dev nD) : Pipeline.Dat τ (Elt F) Unit ℕ (UR sig nD τ) ℕ (cfgM m) c where
  A w := V m c (Pipeline.arrRef spec0 w)
  after w t := match w with
    | 0 => blkOf m c 0 t | 1 => blkOf m c 1 t | 2 => blkOf m c 2 t | 3 => blkOf m c 3 t | 4 => blkOf m c 4 t | 5 => blkOf m c 5 t
    | 6 => blkOf m c 6 t | 7 => blkOf m c 7 t | 8 => blkOf m c 8 t | 9 => blkOf m c 9 t | 10 => outAt m c t
  Φ _ := iprop(Pipeline.ΦA spec0 c ∗ Pipeline.ΦT pre0 (tbl m) c)
  q _ := fullShare
  owed _ := 0

/-- The windows' arrays at entry. -/
theorem dats_A (c : Dev nD) (w : Fin (cfgM m).W) : (dats m 0 c).A w = V m c (Pipeline.arrRef spec0 w) := by dsimp only [dats]
/-- What window 0 holds after a point. -/
theorem after0 (c : Dev nD) (t : Fin (cfgM m).N) : (dats m 0 c).after 0 t = blkOf m c 0 t := rfl
/-- What window 1 holds after a point. -/
theorem after1 (c : Dev nD) (t : Fin (cfgM m).N) : (dats m 0 c).after 1 t = blkOf m c 1 t := rfl
/-- What window 2 holds after a point. -/
theorem after2 (c : Dev nD) (t : Fin (cfgM m).N) : (dats m 0 c).after 2 t = blkOf m c 2 t := rfl
/-- What window 3 holds after a point. -/
theorem after3 (c : Dev nD) (t : Fin (cfgM m).N) : (dats m 0 c).after 3 t = blkOf m c 3 t := rfl
/-- What window 4 holds after a point. -/
theorem after4 (c : Dev nD) (t : Fin (cfgM m).N) : (dats m 0 c).after 4 t = blkOf m c 4 t := rfl
/-- What window 5 holds after a point. -/
theorem after5 (c : Dev nD) (t : Fin (cfgM m).N) : (dats m 0 c).after 5 t = blkOf m c 5 t := rfl
/-- What window 6 holds after a point. -/
theorem after6 (c : Dev nD) (t : Fin (cfgM m).N) : (dats m 0 c).after 6 t = blkOf m c 6 t := rfl
/-- What window 7 holds after a point. -/
theorem after7 (c : Dev nD) (t : Fin (cfgM m).N) : (dats m 0 c).after 7 t = blkOf m c 7 t := rfl
/-- What window 8 holds after a point. -/
theorem after8 (c : Dev nD) (t : Fin (cfgM m).N) : (dats m 0 c).after 8 t = blkOf m c 8 t := rfl
/-- What window 9 holds after a point. -/
theorem after9 (c : Dev nD) (t : Fin (cfgM m).N) : (dats m 0 c).after 9 t = blkOf m c 9 t := rfl
/-- What window 10 holds after a point. -/
theorem after10 (c : Dev nD) (t : Fin (cfgM m).N) : (dats m 0 c).after 10 t = outAt m c t := rfl

/-- Each input window's staging buffer holds its block at every point. -/
theorem before0 (c : Dev nD) (t : Fin (cfgM m).N) (d) : (dats m 0 c).before 0 t d = blkOf m c 0 t :=
  ((dats m 0 c).before_in_eq_fetched 0 rfl (fun _ => rfl) (fun _ _ _ => rfl)
    (fun t => by rw [after0]; unfold Pipeline.Dat.blockOf; rw [dats_A]; try rfl) t d).trans
    (by unfold Pipeline.Dat.fetched Pipeline.Dat.blockOf; rw [dats_A]; try rfl)
/-- What window 1 holds before a point. -/
theorem before1 (c : Dev nD) (t : Fin (cfgM m).N) (d) : (dats m 0 c).before 1 t d = blkOf m c 1 t :=
  ((dats m 0 c).before_in_eq_fetched 1 rfl (fun _ => rfl) (fun _ _ _ => rfl)
    (fun t => by rw [after1]; unfold Pipeline.Dat.blockOf; rw [dats_A]; try rfl) t d).trans
    (by unfold Pipeline.Dat.fetched Pipeline.Dat.blockOf; rw [dats_A]; try rfl)
/-- What window 2 holds before a point. -/
theorem before2 (c : Dev nD) (t : Fin (cfgM m).N) (d) : (dats m 0 c).before 2 t d = blkOf m c 2 t :=
  ((dats m 0 c).before_in_eq_fetched 2 rfl (fun _ => rfl) (fun _ _ _ => rfl)
    (fun t => by rw [after2]; unfold Pipeline.Dat.blockOf; rw [dats_A]; try rfl) t d).trans
    (by unfold Pipeline.Dat.fetched Pipeline.Dat.blockOf; rw [dats_A]; try rfl)
/-- What window 3 holds before a point. -/
theorem before3 (c : Dev nD) (t : Fin (cfgM m).N) (d) : (dats m 0 c).before 3 t d = blkOf m c 3 t :=
  ((dats m 0 c).before_in_eq_fetched 3 rfl (fun _ => rfl) (fun _ _ _ => rfl)
    (fun t => by rw [after3]; unfold Pipeline.Dat.blockOf; rw [dats_A]; try rfl) t d).trans
    (by unfold Pipeline.Dat.fetched Pipeline.Dat.blockOf; rw [dats_A]; try rfl)
/-- What window 4 holds before a point. -/
theorem before4 (c : Dev nD) (t : Fin (cfgM m).N) (d) : (dats m 0 c).before 4 t d = blkOf m c 4 t :=
  ((dats m 0 c).before_in_eq_fetched 4 rfl (fun _ => rfl) (fun _ _ _ => rfl)
    (fun t => by rw [after4]; unfold Pipeline.Dat.blockOf; rw [dats_A]; try rfl) t d).trans
    (by unfold Pipeline.Dat.fetched Pipeline.Dat.blockOf; rw [dats_A]; try rfl)
/-- What window 5 holds before a point. -/
theorem before5 (c : Dev nD) (t : Fin (cfgM m).N) (d) : (dats m 0 c).before 5 t d = blkOf m c 5 t :=
  ((dats m 0 c).before_in_eq_fetched 5 rfl (fun _ => rfl) (fun _ _ _ => rfl)
    (fun t => by rw [after5]; unfold Pipeline.Dat.blockOf; rw [dats_A]; try rfl) t d).trans
    (by unfold Pipeline.Dat.fetched Pipeline.Dat.blockOf; rw [dats_A]; try rfl)
/-- What window 6 holds before a point. -/
theorem before6 (c : Dev nD) (t : Fin (cfgM m).N) (d) : (dats m 0 c).before 6 t d = blkOf m c 6 t :=
  ((dats m 0 c).before_in_eq_fetched 6 rfl (fun _ => rfl) (fun _ _ _ => rfl)
    (fun t => by rw [after6]; unfold Pipeline.Dat.blockOf; rw [dats_A]; try rfl) t d).trans
    (by unfold Pipeline.Dat.fetched Pipeline.Dat.blockOf; rw [dats_A]; try rfl)
/-- What window 7 holds before a point. -/
theorem before7 (c : Dev nD) (t : Fin (cfgM m).N) (d) : (dats m 0 c).before 7 t d = blkOf m c 7 t :=
  ((dats m 0 c).before_in_eq_fetched 7 rfl (fun _ => rfl) (fun _ _ _ => rfl)
    (fun t => by rw [after7]; unfold Pipeline.Dat.blockOf; rw [dats_A]; try rfl) t d).trans
    (by unfold Pipeline.Dat.fetched Pipeline.Dat.blockOf; rw [dats_A]; try rfl)
/-- What window 8 holds before a point. -/
theorem before8 (c : Dev nD) (t : Fin (cfgM m).N) (d) : (dats m 0 c).before 8 t d = blkOf m c 8 t :=
  ((dats m 0 c).before_in_eq_fetched 8 rfl (fun _ => rfl) (fun _ _ _ => rfl)
    (fun t => by rw [after8]; unfold Pipeline.Dat.blockOf; rw [dats_A]; try rfl) t d).trans
    (by unfold Pipeline.Dat.fetched Pipeline.Dat.blockOf; rw [dats_A]; try rfl)
/-- What window 9 holds before a point. -/
theorem before9 (c : Dev nD) (t : Fin (cfgM m).N) (d) : (dats m 0 c).before 9 t d = blkOf m c 9 t :=
  ((dats m 0 c).before_in_eq_fetched 9 rfl (fun _ => rfl) (fun _ _ _ => rfl)
    (fun t => by rw [after9]; unfold Pipeline.Dat.blockOf; rw [dats_A]; try rfl) t d).trans
    (by unfold Pipeline.Dat.fetched Pipeline.Dat.blockOf; rw [dats_A]; try rfl)

/-- A whole buffer held is the whole memref's points-to at the representative of what it holds. -/
theorem whole_rep {b : Ref sig .tc} {sp : Space} {s : Shape} {e : EltTy} (c : Dev nD) (q : PosShare TreeShare) (M : Memref sig .tc sp s e) (hM : M.IsWhole)
    (hset : M.view.set = Finset.univ) (f : Buf (Elt F) (M.view.loc (c : Thread nD τ))) :
    ((M.view.loc (c : Thread nD τ) ↦{q} f : sProp 𝕄))
      = (M.view.loc (c : Thread nD τ) ↦[M.view.set]{q} M.view.rep (M.view.read (Elt F) f)) := by
  rw [← eq_rep hM (f := f) rfl, hset]

/-- The table's share the body is handed, as the whole memref's. -/
theorem table_eq (c : Dev nD) : (Pipeline.ΦT pre0 (tbl m) c : sProp 𝕄)
    = ((Memref.whole main_arg5).view.loc (c : Thread nD τ) ↦[(Memref.whole main_arg5).view.set]{fullShare.right} (Memref.whole main_arg5).view.rep (tbl m 0)) := by
  unfold Pipeline.ΦT Pipeline.prefHeld
  rw [show (Finset.univ : Finset (Fin 1)) = {(0 : Fin 1)} from by decide, bigSep_singleton]
  exact whole_rep (b := main_arg5) c fullShare.right (Memref.whole main_arg5) (Memref.isWhole_whole _) (View.set_whole _) (tbl m 0)

/-- A scratch buffer held at some contents, as the whole memref's. -/
theorem scratch0_eq (c : Dev nD) : (iprop(∃ f : Buf (Elt F) ((c : Thread nD τ).loc cc0_scratch0), ((c : Thread nD τ).loc cc0_scratch0) ↦{fullShare} f) : sProp 𝕄)
    = iprop(∃ f, ((Memref.whole cc0_scratch0).view.loc (c : Thread nD τ) ↦[(Memref.whole cc0_scratch0).view.set]{fullShare} f)) := by
  rw [show (Memref.whole cc0_scratch0).view.set = Finset.univ from View.set_whole _]
/-- The second scratch array, seen as a memory reference. -/
theorem scratch1_eq (c : Dev nD) : (iprop(∃ f : Buf (Elt F) ((c : Thread nD τ).loc cc0_scratch1), ((c : Thread nD τ).loc cc0_scratch1) ↦{fullShare} f) : sProp 𝕄)
    = iprop(∃ f, ((Memref.whole cc0_scratch1).view.loc (c : Thread nD τ) ↦[(Memref.whole cc0_scratch1).view.set]{fullShare} f)) := by
  rw [show (Memref.whole cc0_scratch1).view.set = Finset.univ from View.set_whole _]

/-- Each window's current staging buffer at point `t`, and that it is whole. -/
def st0 (t : Fin (cfgM m).N) : Memref sig .tc .vmem S1x1x128 .f32 := spec0_0.stage ((cfgM m).slots t 0)
/-- The staging buffer of window 0 is a whole buffer. -/
theorem hst0 (t : Fin (cfgM m).N) : (st0 m t).IsWhole := hstage0_0 (((cfgM m).slots t 0).cast nbuf0_0)
/-- The staging buffer of window 1 at a point. -/
def st1 (t : Fin (cfgM m).N) : Memref sig .tc .vmem S1x4096x128 .f32 := spec0_1.stage ((cfgM m).slots t 1)
/-- The staging buffer of window 1 is a whole buffer. -/
theorem hst1 (t : Fin (cfgM m).N) : (st1 m t).IsWhole := hstage0_1 (((cfgM m).slots t 1).cast nbuf0_1)
/-- The staging buffer of window 2 at a point. -/
def st2 (t : Fin (cfgM m).N) : Memref sig .tc .vmem S1x2x65536 .i32 := spec0_2.stage ((cfgM m).slots t 2)
/-- The staging buffer of window 2 is a whole buffer. -/
theorem hst2 (t : Fin (cfgM m).N) : (st2 m t).IsWhole := hstage0_2 (((cfgM m).slots t 2).cast nbuf0_2)
/-- The staging buffer of window 3 at a point. -/
def st3 (t : Fin (cfgM m).N) : Memref sig .tc .vmem S1x1x65536 .f32 := spec0_3.stage ((cfgM m).slots t 3)
/-- The staging buffer of window 3 is a whole buffer. -/
theorem hst3 (t : Fin (cfgM m).N) : (st3 m t).IsWhole := hstage0_3 (((cfgM m).slots t 3).cast nbuf0_3)
/-- The staging buffer of window 4 at a point. -/
def st4 (t : Fin (cfgM m).N) : Memref sig .tc .vmem S128x128 .f32 := spec0_4.stage ((cfgM m).slots t 4)
/-- The staging buffer of window 4 is a whole buffer. -/
theorem hst4 (t : Fin (cfgM m).N) : (st4 m t).IsWhole := hstage0_4 (((cfgM m).slots t 4).cast nbuf0_4)
/-- The staging buffer of window 5 at a point. -/
def st5 (t : Fin (cfgM m).N) : Memref sig .tc .vmem S128x128 .f32 := spec0_5.stage ((cfgM m).slots t 5)
/-- The staging buffer of window 5 is a whole buffer. -/
theorem hst5 (t : Fin (cfgM m).N) : (st5 m t).IsWhole := hstage0_5 (((cfgM m).slots t 5).cast nbuf0_5)
/-- The staging buffer of window 6 at a point. -/
def st6 (t : Fin (cfgM m).N) : Memref sig .tc .vmem S1x128 .f32 := spec0_6.stage ((cfgM m).slots t 6)
/-- The staging buffer of window 6 is a whole buffer. -/
theorem hst6 (t : Fin (cfgM m).N) : (st6 m t).IsWhole := hstage0_6 (((cfgM m).slots t 6).cast nbuf0_6)
/-- The staging buffer of window 7 at a point. -/
def st7 (t : Fin (cfgM m).N) : Memref sig .tc .vmem S128x128 .f32 := spec0_7.stage ((cfgM m).slots t 7)
/-- The staging buffer of window 7 is a whole buffer. -/
theorem hst7 (t : Fin (cfgM m).N) : (st7 m t).IsWhole := hstage0_7 (((cfgM m).slots t 7).cast nbuf0_7)
/-- The staging buffer of window 8 at a point. -/
def st8 (t : Fin (cfgM m).N) : Memref sig .tc .vmem S128x128 .f32 := spec0_8.stage ((cfgM m).slots t 8)
/-- The staging buffer of window 8 is a whole buffer. -/
theorem hst8 (t : Fin (cfgM m).N) : (st8 m t).IsWhole := hstage0_8 (((cfgM m).slots t 8).cast nbuf0_8)
/-- The staging buffer of window 9 at a point. -/
def st9 (t : Fin (cfgM m).N) : Memref sig .tc .vmem S1x128 .f32 := spec0_9.stage ((cfgM m).slots t 9)
/-- The staging buffer of window 9 is a whole buffer. -/
theorem hst9 (t : Fin (cfgM m).N) : (st9 m t).IsWhole := hstage0_9 (((cfgM m).slots t 9).cast nbuf0_9)
/-- The staging buffer of window 10 at a point. -/
def st10 (t : Fin (cfgM m).N) : Memref sig .tc .vmem S1x1x128 .f32 := spec0_10.stage ((cfgM m).slots t 10)
/-- The staging buffer of window 10 is a whole buffer. -/
theorem hst10 (t : Fin (cfgM m).N) : (st10 m t).IsWhole := hstage0_10 (((cfgM m).slots t 10).cast nbuf0_10)

/-- What the body is called with at point `t`, window by window. -/
def bodyPre (c : Dev nD) (t : Fin (cfgM m).N) : sProp 𝕄 :=
  iprop((dats m 0 c).Φ t.castSucc ∗ (dats m 0 c).owesAt () t.castSucc
    ∗ (∃ d, owns (c : Thread nD τ) (st0 m t) fullShare ((dats m 0 c).before 0 t d))
    ∗ (∃ d, owns (c : Thread nD τ) (st1 m t) fullShare ((dats m 0 c).before 1 t d))
    ∗ (∃ d, owns (c : Thread nD τ) (st2 m t) fullShare ((dats m 0 c).before 2 t d))
    ∗ (∃ d, owns (c : Thread nD τ) (st3 m t) fullShare ((dats m 0 c).before 3 t d))
    ∗ (∃ d, owns (c : Thread nD τ) (st4 m t) fullShare ((dats m 0 c).before 4 t d))
    ∗ (∃ d, owns (c : Thread nD τ) (st5 m t) fullShare ((dats m 0 c).before 5 t d))
    ∗ (∃ d, owns (c : Thread nD τ) (st6 m t) fullShare ((dats m 0 c).before 6 t d))
    ∗ (∃ d, owns (c : Thread nD τ) (st7 m t) fullShare ((dats m 0 c).before 7 t d))
    ∗ (∃ d, owns (c : Thread nD τ) (st8 m t) fullShare ((dats m 0 c).before 8 t d))
    ∗ (∃ d, owns (c : Thread nD τ) (st9 m t) fullShare ((dats m 0 c).before 9 t d))
    ∗ (∃ d, owns (c : Thread nD τ) (st10 m t) fullShare ((dats m 0 c).before 10 t d)))
/-- What it gives back. -/
def bodyPost (c : Dev nD) (t : Fin (cfgM m).N) : sProp 𝕄 :=
  iprop((dats m 0 c).Φ t.succ ∗ (dats m 0 c).owesAt () t.succ
    ∗ owns (c : Thread nD τ) (st0 m t) fullShare ((dats m 0 c).after 0 t)
    ∗ owns (c : Thread nD τ) (st1 m t) fullShare ((dats m 0 c).after 1 t)
    ∗ owns (c : Thread nD τ) (st2 m t) fullShare ((dats m 0 c).after 2 t)
    ∗ owns (c : Thread nD τ) (st3 m t) fullShare ((dats m 0 c).after 3 t)
    ∗ owns (c : Thread nD τ) (st4 m t) fullShare ((dats m 0 c).after 4 t)
    ∗ owns (c : Thread nD τ) (st5 m t) fullShare ((dats m 0 c).after 5 t)
    ∗ owns (c : Thread nD τ) (st6 m t) fullShare ((dats m 0 c).after 6 t)
    ∗ owns (c : Thread nD τ) (st7 m t) fullShare ((dats m 0 c).after 7 t)
    ∗ owns (c : Thread nD τ) (st8 m t) fullShare ((dats m 0 c).after 8 t)
    ∗ owns (c : Thread nD τ) (st9 m t) fullShare ((dats m 0 c).after 9 t)
    ∗ owns (c : Thread nD τ) (st10 m t) fullShare ((dats m 0 c).after 10 t))

/-- The body as the pipeline calls it at point `t`. -/
abbrev bodyAt (t : Fin (cfgM m).N) :=
  cc0__sgcm_kernel (F := F) (grid0.coords t) (Memref.whole main_arg5) (Memref.isWhole_whole _) (st0 m t) (hst0 m t) (st1 m t) (hst1 m t) (st2 m t) (hst2 m t) (st3 m t) (hst3 m t) (st4 m t) (hst4 m t) (st5 m t) (hst5 m t) (st6 m t) (hst6 m t) (st7 m t) (hst7 m t) (st8 m t) (hst8 m t) (st9 m t) (hst9 m t) (st10 m t) (hst10 m t) (Memref.whole cc0_scratch0) (Memref.isWhole_whole _) (Memref.whole cc0_scratch1) (Memref.isWhole_whole _)

/-- The body's call at a point. -/
theorem row (t : Fin (cfgM m).N) : defs₀ (F := F) .tc (cfgM m).body ((cfgM m).bodyArgs t ((cfgM m).slots t)) = bodyAt m t := by
  unfold defs₀; rw [Defs.onTc_tc]; rfl

/-- The body keeps the pipeline's account at every point. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost
  simp only [before0, before1, before2, before3, before4, before5, before6, before7, before8, before9]
  rw [show (dats m 0 c).Φ t.succ = iprop(Pipeline.ΦA spec0 c ∗ Pipeline.ΦT pre0 (tbl m) c) from rfl,
    show (dats m 0 c).Φ t.castSucc = iprop(Pipeline.ΦA spec0 c ∗ Pipeline.ΦT pre0 (tbl m) c) from rfl,
    show (dats m 0 c).owesAt () t.succ = (dats m 0 c).owesAt () t.castSucc from rfl, after0, after1, after2, after3, after4, after5, after6, after7, after8, after9, after10, table_eq]
  unfold Pipeline.ΦA
  rw [scopedRest0_eq, scratch0_eq, scratch1_eq]
  iintro ⟨⟨⟨⟨HX, HY⟩, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (wp_wand_r Idealize.ShloMosaic.frame (wpE (defs₀ (F := F)) Variants.none (c : Thread nD τ) none) Set.univ)
  isplitl [HT HX HY H0 H1 H2 H3 H4 H5 H6 H7 H8 H9 H10]
  · iapply (body_owns c (grid0.coords t) (Memref.whole main_arg5) (Memref.isWhole_whole _) (st0 m t) (hst0 m t) (st1 m t) (hst1 m t) (st2 m t) (hst2 m t) (st3 m t) (hst3 m t) (st4 m t) (hst4 m t) (st5 m t) (hst5 m t) (st6 m t) (hst6 m t) (st7 m t) (hst7 m t) (st8 m t) (hst8 m t) (st9 m t) (hst9 m t) (st10 m t) (hst10 m t) (Memref.whole cc0_scratch0) (Memref.isWhole_whole _) (Memref.whole cc0_scratch1) (Memref.isWhole_whole _) fullShare.right (tbl m 0)
      (blkOf m c 0 t) (blkOf m c 1 t) (blkOf m c 2 t) (blkOf m c 3 t) (blkOf m c 4 t) (blkOf m c 5 t) (blkOf m c 6 t) (blkOf m c 7 t) (blkOf m c 8 t) (blkOf m c 9 t) ((dats m 0 c).before 10 t d10))
    isplitl [HT]; · iexact HT
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HX]; · iexact HX
    iexact HY
  · iintro %_ ⟨HT, H0, H1, H2, H3, H4, H5, H6, H7, H8, H9, H10, HX, HY⟩
    isplitl [HT HX HY Hg]
    · isplitl [HX HY Hg]
      · isplitl [HX HY]
        · isplitl [HX]; · iexact HX
          iexact HY
        iexact Hg
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body obligation at every point. -/
theorem body_obligation (c : Dev nD) : Pipeline.BodyObligation (dats (F := F) m 0 c) defs₀ Variants.none () Set.univ := fun t => by
  rw [bigSep_W0, bigSep_W0, row]
  exact triple_restated (sound_body m c t) rfl .rfl fun _ => .rfl

/-! ## The run -/

/-- The line after the grid touches the windows' arrays and the buffers aside only. -/
theorem sfx_sub : ∀ ops ∈ ([hostOps1] : List (List (HloOp τ sig (Elt F)))), ∀ op ∈ ops, op.bufs ⊆ Pipeline.tailRefs sig pre0 spec0 := by
  intro ops hops op hop
  simp only [List.mem_cons, List.mem_nil_iff, or_false] at hops
  subst hops
  refine Pipeline.sub_tailRefs pre0 spec0 op ((List.forall_iff_forall_mem.mp hostOps1_sub) op hop) ?_
  simp only [hostOps1, List.mem_cons, List.mem_nil_iff, or_false] at hop
  subst hop
  intro j; fin_cases j
  simp only [StableHlo.reshape_bufs, StableHlo.unary_bufs, Finset.mem_insert, Finset.mem_singleton, not_or]
  and_intros <;> exact StableHlo.devRef_ne_of_ne (by decide)
/-- The line after the grid makes no new buffer. -/
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  simp only [hostOps1, List.mem_cons, List.mem_nil_iff, or_false] at hop
  subst hop; rfl
/-- The line after the grid writes no array of the grid. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w; fin_cases w <;> simp only [StableHlo.reshape_writes, Finset.mem_singleton] <;> exact StableHlo.devRef_ne_of_ne (by decide)

/-- The whole program runs, and every buffer ends as the grid and the last line leave it. -/
theorem run_main (ρ : Dev nD → PrngReg) :
    θ_run defs (onTc (main (F := F))) ⟨m, fun _ => 0, ρ⟩ (fun r =>
      Pipeline.FramePost (Pipeline.pin pcfgs fun _ => adm m) (dats m) (0 : Fin 1) (Pipeline.afterTail pcfgs (fun _ => adm m) (dats m) (0 : Fin 1) (V0 m) [hostOps1]) r
        ∧ r.2.sem = fun _ => 0) :=
  Pipeline.θ_run_frameP_around pcfgs (fun _ => adm m) (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := Pipeline.hmainP_around _ 0 defs₀ Variants.none m main [hostOps0] [hostOps1] hostOps0_sub ⟨rfl, rfl⟩ main_chain)
    (hA := dats_A m) (hpf := V_pre m) (hΦ := fun _ _ => rfl) _ (fun _ h => h)

end Cert.KernelIdeal.Sgcm

end
-- ==== Proof.IdealPost.lean ====
/- What the program leaves: its arguments as they were, and in its result each graph's output row, as a function of the
   arguments as launched. -/
module

public import proofs.«01_k».proof.Proof.IdealRun

@[expose] public section

set_option maxRecDepth 16384

noncomputable section

namespace Cert.KernelIdeal.Sgcm

open Cert.KernelIdeal Cert.KernelIdeal.Gen
open Idealize.ShloMosaic Idealize.ShloMosaic.TcCoe Idealize.ShloMosaic.Tactic Idealize.ShloMosaic.ValueIdx
open Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ)

/-! ## The buffers at the grid's entry -/

/-- A buffer other than the two reshaped biases is as launched. -/
theorem V_of_ne (c : Dev nD) (b : Ref sig .tc) (h0 : b ≠ main_call0_v0) (h1 : b ≠ main_call0_v1) : V m c b = m ((c : Thread nD τ).loc b) := by
  refine StableHlo.after_of_forall_not_mem (b := Proc.devRef .tc b) _ _ fun op hop => ?_
  simp only [List.flatten_cons, List.flatten_nil, List.append_nil, hostOps0, List.mem_cons, List.mem_nil_iff, or_false] at hop
  rcases hop with rfl | rfl <;> simp only [StableHlo.reshape_writes, Finset.mem_singleton]
  · exact StableHlo.devRef_ne_of_ne h0
  · exact StableHlo.devRef_ne_of_ne h1

/-- The reshaped biases. -/
theorem V_bias1 (c : Dev nD) : (V m c main_call0_v0 : Vec F S1x128 .f32) = shapeCast S1x128 (m ((c : Thread nD τ).loc main_arg8) : Vec F S128 .f32) shapeCasts_S128_S1x128 := by
  rfl
/-- The second layer's bias, reshaped. -/
theorem V_bias2 (c : Dev nD) : (V m c main_call0_v1 : Vec F S1x128 .f32) = shapeCast S1x128 (m ((c : Thread nD τ).loc main_arg11) : Vec F S128 .f32) shapeCasts_S128_S1x128 := by
  rfl

/-! ## The frame -/

/-- A buffer the pipeline passes by, the result apart, is as launched. -/
theorem tail_of (c : Dev nD) (b : Ref sig .tc) (hb : ∀ w, Pipeline.arrRef spec0 w ≠ b) (hv : b ≠ main_v0) (h0 : b ≠ main_call0_v0) (h1 : b ≠ main_call0_v1) :
    Pipeline.afterTail pcfgs (fun _ => adm m) (dats m) (0 : Fin 1) (V0 m) [hostOps1] c b = m ((c : Thread nD τ).loc b) := by
  unfold Pipeline.afterTail
  rw [StableHlo.after_of_forall_not_mem _ _ fun op hop => ?_]
  · exact (Pipeline.withArrays_of_ne spec0 c (V0 m c) _ b hb).trans (V_of_ne m c b h0 h1)
  · simp only [List.flatten_cons, List.flatten_nil, List.append_nil, hostOps1, List.mem_cons, List.mem_nil_iff, or_false] at hop
    subst hop
    simp only [StableHlo.reshape_writes, Finset.mem_singleton]
    exact StableHlo.devRef_ne_of_ne hv

/-- A buffer that the program only reads ends as launched. -/
theorem frame_post {r : PUnit × MemSt nD τ sig (Elt F)}
    (h : Pipeline.FramePost (Pipeline.pin pcfgs fun _ => adm m) (dats m) (0 : Fin 1) (Pipeline.afterTail pcfgs (fun _ => adm m) (dats m) (0 : Fin 1) (V0 m) [hostOps1]) r)
    (c : Dev nD) (b : Ref sig .tc) (hb : (b ∈ restRefs sig spec0 ∧ (∀ w, Pipeline.arrRef spec0 w ≠ b) ∧ b ≠ main_v0) ∨ ∃ w : Fin 11, w ≠ 10 ∧ Pipeline.arrRef spec0 w = b)
    (h0 : b ≠ main_call0_v0) (h1 : b ≠ main_call0_v1) :
    r.2.mem ((c : Thread nD τ).loc b) = m ((c : Thread nD τ).loc b) := by
  rcases hb with ⟨hr, hb, hv⟩ | ⟨w, hw, rfl⟩
  · exact ((h c).2 b hr).trans (tail_of m c b hb hv h0 h1)
  · have hin : ((cfgM m).win w).isOut = false := by
      revert w; intro w hw _ _; fin_cases w <;> first | rfl | exact absurd rfl hw
    exact (((h c).1 w).trans ((dats m 0 c).arrAt_in w hin _)).trans ((dats_A m c w).trans (V_of_ne m c _ h0 h1))

/-! ## The result -/

/-- The grid's one coordinate is the point's number. -/
theorem coords_val (t : Fin grid0.N) : ((grid0.coords t) 0).val = t.val := by revert t; decide +kernel

/-- The result array of the grid: at graph `b` its output row. -/
def outArr (c : Dev nD) : Vec F S8x1x128 .f32 := fun p => outAt m c ⟨(p 0).val, by rw [show (cfgM m).N = 8 from N_0]; exact (p 0).isLt⟩ (ix3 0 0 (p 2))

/-- The block index of a graph. -/
theorem tr0 (i : grid0.Coords) : cc0_transform_0 i = ![(i 0).val, 0, 0] := by
  show ![(BitVec.ofNat 32 (i 0).val).toNat, 0, 0] = _
  rw [show (BitVec.ofNat 32 (i 0).val).toNat = (i 0).val from by rw [BitVec.toNat_ofNat]; exact Nat.mod_eq_of_lt (Nat.lt_of_lt_of_le (i 0).isLt (by decide))]

/-- Window 10's block index is the graph's. -/
theorem index10 (t : Fin (cfgM m).N) : ((cfgM m).win 10).index t = ![t.val, 0, 0] := by
  show cc0_transform_0 (grid0.coords t) = _
  rw [tr0, coords_val]

/-- The result's block at a point is that graph's row. -/
theorem emb10 (t : Fin (cfgM m).N) (y : S1x1x128.Idx) : ((((cfgM m).win 10).blk t).view.emb y : S8x1x128.Idx) = ix3 ⟨t.val, t.isLt.trans_eq N_0⟩ 0 (y 2) := by
  have e := index10 m t
  funext a; apply Fin.ext
  have h0 : (y 0).val = 0 := by have h : (y 0).val < 1 := (y 0).isLt; omega
  have h1 : (y 1).val = 0 := by have h : (y 1).val < 1 := (y 1).isLt; omega
  match a with
  | ⟨0, _⟩ => show ((cfgM m).win 10).index t (0 : Fin 3) * 1 + 1 * (y 0).val = t.val; rw [e, h0]; show t.val * 1 + 1 * 0 = t.val; omega
  | ⟨1, _⟩ => show ((cfgM m).win 10).index t (1 : Fin 3) * 1 + 1 * (y 1).val = 0; rw [e, h1]; rfl
  | ⟨2, _⟩ => show ((cfgM m).win 10).index t (2 : Fin 3) * 128 + 1 * (y 2).val = (y 2).val; rw [e]; show 0 * 128 + 1 * (y 2).val = (y 2).val; omega

/-! ## The input windows' blocks: graph `t` of the arrays with one block a graph, and the other arrays whole -/

/-- Window 0's block index is the graph's. -/
theorem index0 (t : Fin (cfgM m).N) : ((cfgM m).win 0).index t = ![t.val, 0, 0] := by
  show cc0_transform_0 (grid0.coords t) = _
  rw [tr0, coords_val]
/-- Window 0's block is the graph's part of its argument. -/
theorem blk0 (c : Dev nD) (t : Fin (cfgM m).N) (u : Fin 1) (a : Fin 1) (b : Fin 128) :
    blkOf m c 0 t (ix3 u a b) = (m ((c : Thread nD τ).loc main_arg0) : Vec F S8x1x128 .f32) (ix3 ⟨t.val, t.isLt.trans_eq N_0⟩ a b) := by
  rw [← V_of_ne m c main_arg0 (by decide) (by decide)]
  have e := index0 m t
  show (V m c main_arg0 : Vec F S8x1x128 .f32) ((((cfgM m).win 0).blk t).view.emb (ix3 u a b)) = _
  refine congrArg (V m c main_arg0 : Vec F S8x1x128 .f32) (funext fun d => Fin.ext ?_)
  have hu := u.isLt
  match d with
  | ⟨0, _⟩ => show ((cfgM m).win 0).index t (0 : Fin 3) * 1 + 1 * u.val = t.val; rw [e]; show t.val * 1 + 1 * u.val = t.val; omega
  | ⟨1, _⟩ => show ((cfgM m).win 0).index t (1 : Fin 3) * 1 + 1 * a.val = a.val; rw [e]; show 0 * 1 + 1 * a.val = a.val; omega
  | ⟨2, _⟩ => show ((cfgM m).win 0).index t (2 : Fin 3) * 128 + 1 * b.val = b.val; rw [e]; show 0 * 128 + 1 * b.val = b.val; omega

/-- Window 1's block index is the graph's. -/
theorem index1 (t : Fin (cfgM m).N) : ((cfgM m).win 1).index t = ![t.val, 0, 0] := by
  show cc0_transform_0 (grid0.coords t) = _
  rw [tr0, coords_val]
/-- Window 1's block is the graph's part of its argument. -/
theorem blk1 (c : Dev nD) (t : Fin (cfgM m).N) (u : Fin 1) (a : Fin 4096) (b : Fin 128) :
    blkOf m c 1 t (ix3 u a b) = (m ((c : Thread nD τ).loc main_arg2) : Vec F S8x4096x128 .f32) (ix3 ⟨t.val, t.isLt.trans_eq N_0⟩ a b) := by
  rw [← V_of_ne m c main_arg2 (by decide) (by decide)]
  have e := index1 m t
  show (V m c main_arg2 : Vec F S8x4096x128 .f32) ((((cfgM m).win 1).blk t).view.emb (ix3 u a b)) = _
  refine congrArg (V m c main_arg2 : Vec F S8x4096x128 .f32) (funext fun d => Fin.ext ?_)
  have hu := u.isLt
  match d with
  | ⟨0, _⟩ => show ((cfgM m).win 1).index t (0 : Fin 3) * 1 + 1 * u.val = t.val; rw [e]; show t.val * 1 + 1 * u.val = t.val; omega
  | ⟨1, _⟩ => show ((cfgM m).win 1).index t (1 : Fin 3) * 4096 + 1 * a.val = a.val; rw [e]; show 0 * 4096 + 1 * a.val = a.val; omega
  | ⟨2, _⟩ => show ((cfgM m).win 1).index t (2 : Fin 3) * 128 + 1 * b.val = b.val; rw [e]; show 0 * 128 + 1 * b.val = b.val; omega

/-- Window 2's block index is the graph's. -/
theorem index2 (t : Fin (cfgM m).N) : ((cfgM m).win 2).index t = ![t.val, 0, 0] := by
  show cc0_transform_0 (grid0.coords t) = _
  rw [tr0, coords_val]
/-- Window 2's block is the graph's part of its argument. -/
theorem blk2 (c : Dev nD) (t : Fin (cfgM m).N) (u : Fin 1) (a : Fin 2) (b : Fin 65536) :
    blkOf m c 2 t (ix3 u a b) = (m ((c : Thread nD τ).loc main_arg3) : Vec F S8x2x65536 .i32) (ix3 ⟨t.val, t.isLt.trans_eq N_0⟩ a b) := by
  rw [← V_of_ne m c main_arg3 (by decide) (by decide)]
  have e := index2 m t
  show (V m c main_arg3 : Vec F S8x2x65536 .i32) ((((cfgM m).win 2).blk t).view.emb (ix3 u a b)) = _
  refine congrArg (V m c main_arg3 : Vec F S8x2x65536 .i32) (funext fun d => Fin.ext ?_)
  have hu := u.isLt
  match d with
  | ⟨0, _⟩ => show ((cfgM m).win 2).index t (0 : Fin 3) * 1 + 1 * u.val = t.val; rw [e]; show t.val * 1 + 1 * u.val = t.val; omega
  | ⟨1, _⟩ => show ((cfgM m).win 2).index t (1 : Fin 3) * 2 + 1 * a.val = a.val; rw [e]; show 0 * 2 + 1 * a.val = a.val; omega
  | ⟨2, _⟩ => show ((cfgM m).win 2).index t (2 : Fin 3) * 65536 + 1 * b.val = b.val; rw [e]; show 0 * 65536 + 1 * b.val = b.val; omega

/-- Window 3's block index is the graph's. -/
theorem index3 (t : Fin (cfgM m).N) : ((cfgM m).win 3).index t = ![t.val, 0, 0] := by
  show cc0_transform_0 (grid0.coords t) = _
  rw [tr0, coords_val]
/-- Window 3's block is the graph's part of its argument. -/
theorem blk3 (c : Dev nD) (t : Fin (cfgM m).N) (u : Fin 1) (a : Fin 1) (b : Fin 65536) :
    blkOf m c 3 t (ix3 u a b) = (m ((c : Thread nD τ).loc main_arg4) : Vec F S8x1x65536 .f32) (ix3 ⟨t.val, t.isLt.trans_eq N_0⟩ a b) := by
  rw [← V_of_ne m c main_arg4 (by decide) (by decide)]
  have e := index3 m t
  show (V m c main_arg4 : Vec F S8x1x65536 .f32) ((((cfgM m).win 3).blk t).view.emb (ix3 u a b)) = _
  refine congrArg (V m c main_arg4 : Vec F S8x1x65536 .f32) (funext fun d => Fin.ext ?_)
  have hu := u.isLt
  match d with
  | ⟨0, _⟩ => show ((cfgM m).win 3).index t (0 : Fin 3) * 1 + 1 * u.val = t.val; rw [e]; show t.val * 1 + 1 * u.val = t.val; omega
  | ⟨1, _⟩ => show ((cfgM m).win 3).index t (1 : Fin 3) * 1 + 1 * a.val = a.val; rw [e]; show 0 * 1 + 1 * a.val = a.val; omega
  | ⟨2, _⟩ => show ((cfgM m).win 3).index t (2 : Fin 3) * 65536 + 1 * b.val = b.val; rw [e]; show 0 * 65536 + 1 * b.val = b.val; omega

/-- Window 4's block is its whole array. -/
theorem blk4 (c : Dev nD) (t : Fin (cfgM m).N) : (blkOf m c 4 t : Vec F S128x128 .f32) = V m c main_arg6 := by
  refine funext fun (y : S128x128.Idx) => ?_
  show (V m c main_arg6 : Vec F S128x128 .f32) ((((cfgM m).win 4).blk t).view.emb y) = _
  refine congrArg (V m c main_arg6 : Vec F S128x128 .f32) (funext fun d => Fin.ext ?_)
  match d with
  | ⟨0, _⟩ => show 0 * 128 + 1 * (y 0).val = (y 0).val; omega
  | ⟨1, _⟩ => show 0 * 128 + 1 * (y 1).val = (y 1).val; omega

/-- Window 5's block is its whole array. -/
theorem blk5 (c : Dev nD) (t : Fin (cfgM m).N) : (blkOf m c 5 t : Vec F S128x128 .f32) = V m c main_arg7 := by
  refine funext fun (y : S128x128.Idx) => ?_
  show (V m c main_arg7 : Vec F S128x128 .f32) ((((cfgM m).win 5).blk t).view.emb y) = _
  refine congrArg (V m c main_arg7 : Vec F S128x128 .f32) (funext fun d => Fin.ext ?_)
  match d with
  | ⟨0, _⟩ => show 0 * 128 + 1 * (y 0).val = (y 0).val; omega
  | ⟨1, _⟩ => show 0 * 128 + 1 * (y 1).val = (y 1).val; omega

/-- Window 6's block is its whole array. -/
theorem blk6 (c : Dev nD) (t : Fin (cfgM m).N) : (blkOf m c 6 t : Vec F S1x128 .f32) = V m c main_call0_v0 := by
  refine funext fun (y : S1x128.Idx) => ?_
  show (V m c main_call0_v0 : Vec F S1x128 .f32) ((((cfgM m).win 6).blk t).view.emb y) = _
  refine congrArg (V m c main_call0_v0 : Vec F S1x128 .f32) (funext fun d => Fin.ext ?_)
  match d with
  | ⟨0, _⟩ => show 0 * 1 + 1 * (y 0).val = (y 0).val; omega
  | ⟨1, _⟩ => show 0 * 128 + 1 * (y 1).val = (y 1).val; omega

/-- Window 7's block is its whole array. -/
theorem blk7 (c : Dev nD) (t : Fin (cfgM m).N) : (blkOf m c 7 t : Vec F S128x128 .f32) = V m c main_arg9 := by
  refine funext fun (y : S128x128.Idx) => ?_
  show (V m c main_arg9 : Vec F S128x128 .f32) ((((cfgM m).win 7).blk t).view.emb y) = _
  refine congrArg (V m c main_arg9 : Vec F S128x128 .f32) (funext fun d => Fin.ext ?_)
  match d with
  | ⟨0, _⟩ => show 0 * 128 + 1 * (y 0).val = (y 0).val; omega
  | ⟨1, _⟩ => show 0 * 128 + 1 * (y 1).val = (y 1).val; omega

/-- Window 8's block is its whole array. -/
theorem blk8 (c : Dev nD) (t : Fin (cfgM m).N) : (blkOf m c 8 t : Vec F S128x128 .f32) = V m c main_arg10 := by
  refine funext fun (y : S128x128.Idx) => ?_
  show (V m c main_arg10 : Vec F S128x128 .f32) ((((cfgM m).win 8).blk t).view.emb y) = _
  refine congrArg (V m c main_arg10 : Vec F S128x128 .f32) (funext fun d => Fin.ext ?_)
  match d with
  | ⟨0, _⟩ => show 0 * 128 + 1 * (y 0).val = (y 0).val; omega
  | ⟨1, _⟩ => show 0 * 128 + 1 * (y 1).val = (y 1).val; omega

/-- Window 9's block is its whole array. -/
theorem blk9 (c : Dev nD) (t : Fin (cfgM m).N) : (blkOf m c 9 t : Vec F S1x128 .f32) = V m c main_call0_v1 := by
  refine funext fun (y : S1x128.Idx) => ?_
  show (V m c main_call0_v1 : Vec F S1x128 .f32) ((((cfgM m).win 9).blk t).view.emb y) = _
  refine congrArg (V m c main_call0_v1 : Vec F S1x128 .f32) (funext fun d => Fin.ext ?_)
  match d with
  | ⟨0, _⟩ => show 0 * 1 + 1 * (y 0).val = (y 0).val; omega
  | ⟨1, _⟩ => show 0 * 128 + 1 * (y 1).val = (y 1).val; omega

/-- What point `t` writes back is its block of the result array. -/
theorem flushed10 (c : Dev nD) (t : Fin (cfgM m).N) :
    (dats m 0 c).flushed 10 t = (((cfgM m).win 10).blk t).view.read (Elt F) (outArr m c) := by
  show ((cfgM m).win 10).cut (grid0.coords t) ((dats m 0 c).after 10 t) = _
  rw [after10]
  refine funext fun (y : S1x1x128.Idx) => ?_
  show outAt m c t y = outArr m c ((((cfgM m).win 10).blk t).view.emb y)
  refine Eq.trans ?_ (congrArg (outArr m c) (emb10 m t y)).symm
  show outAt m c t y = outAt m c t (ix3 0 0 (y 2))
  refine congrArg _ (funext fun d => Fin.ext ?_)
  match d with
  | ⟨0, _⟩ => have h : (y 0).val < 1 := (y 0).isLt; show (y 0).val = 0; omega
  | ⟨1, _⟩ => have h : (y 1).val < 1 := (y 1).isLt; show (y 1).val = 0; omega
  | ⟨2, _⟩ => rfl

/-- The point whose block an index of the result array lies in. -/
def ptOf (i : S8x1x128.Idx) : Fin (cfgM m).N := ⟨(i 0).val, (i 0).isLt.trans_eq N_0.symm⟩

/-- Each point's block is written back: the next point's is another. -/
theorem flush10 (t : Fin (cfgM m).N) : ((cfgM m).win 10).flush t = true := by
  unfold Pipeline.Window.flush
  rw [Bool.and_eq_true]
  refine ⟨rfl, ?_⟩
  rw [Bool.or_eq_true]
  by_cases h : t.val + 1 = grid0.N
  · exact .inl (decide_eq_true h)
  · refine .inr (decide_eq_true ⟨by have : t.val < grid0.N := t.isLt; show t.val + 1 < grid0.N; omega, fun e => ?_⟩)
    rw [index10, index10] at e
    have h0 : t.val + 1 = t.val := congrFun e 0
    omega

/-- The point of an index, and the row within it, give the index back. -/
theorem ptOf_emb (i : S8x1x128.Idx) : ((((cfgM m).win 10).blk (ptOf m i)).view.emb (ix3 0 0 (i 2) : S1x1x128.Idx) : S8x1x128.Idx) = i := by
  refine (emb10 m (ptOf m i) (ix3 0 0 (i 2))).trans (funext fun d => Fin.ext ?_)
  match d with
  | ⟨0, _⟩ => rfl
  | ⟨1, _⟩ => have h : (i 1).val < 1 := (i 1).isLt; show 0 = (i 1).val; omega
  | ⟨2, _⟩ => rfl

/-- Every index of the result lies in a block that is written out. -/
theorem cover10 (i : S8x1x128.Idx) : ∃ t : Fin (cfgM m).N, ((cfgM m).win 10).flush t = true ∧ i ∈ (((cfgM m).win 10).blk t).view.set := by
  refine ⟨ptOf m i, flush10 m _, ?_⟩
  have h : ∀ j : S8x1x128.Idx, (((cfgM m).win 10).blk (ptOf m i)).view.emb (ix3 0 0 (i 2) : S1x1x128.Idx) = j → j ∈ (((cfgM m).win 10).blk (ptOf m i)).view.set := by
    intro j hj
    subst hj
    exact (((cfgM m).win 10).blk (ptOf m i)).view.emb_mem_set _
  exact h i (ptOf_emb m i)

/-- The result array after the grid. -/
theorem final10 (c : Dev nD) : (dats m 0 c).arrAt 10 (cfgM m).N = outArr m c :=
  (dats m 0 c).arrAt_eq_of_cover 10 (outArr m c) (fun t _ => flushed10 m c t) (cover10 m)

/-- The program's result: the rows of the grid's result array. -/
def res (c : Dev nD) : Vec F S8x128 .f32 := shapeCast S8x128 (outArr m c) shapeCasts_S8x1x128_S8x128

/-- The windows are on distinct arrays. -/
theorem arr_inj : Function.Injective (Pipeline.arrRef spec0) := by decide
/-- The program's result is not an array of the grid. -/
theorem rest_v0 : main_v0 ∈ restRefs sig spec0 := by decide

/-- The line after the grid, from any contents. -/
theorem after_v0 (A : Valuation τ sig (Elt F)) : (StableHlo.after ([hostOps1] : List (List (HloOp τ sig (Elt F)))).flatten A (Proc.devRef .tc main_v0) : Vec F S8x128 .f32)
    = shapeCast S8x128 (A (Proc.devRef .tc main_call0_v2) : Vec F S8x1x128 .f32) shapeCasts_S8x1x128_S8x128 := rfl

/-- After the last line the result holds the rows. -/
theorem tail_v0 (c : Dev nD) : Pipeline.afterTail pcfgs (fun _ => adm m) (dats m) (0 : Fin 1) (V0 m) [hostOps1] c main_v0 = res m c := by
  have hw := Pipeline.withArrays_arr spec0 arr_inj c (V0 m c) (fun w => (dats m 0 c).arrAt w (cfgM m).N) 10
  rw [final10] at hw
  exact (after_v0 _).trans (congrArg (fun A : Vec F S8x1x128 .f32 => shapeCast S8x128 A shapeCasts_S8x1x128_S8x128) hw)

/-- THE RUN: every argument as it was, the result the graphs' output rows, the semaphores at zero. -/
theorem run (ρ : Dev nD → PrngReg) : θ_run defs (onTc (main (F := F))) ⟨m, fun _ => 0, ρ⟩ (fun r =>
    (∀ c : Dev nD, r.2.mem ((c : Thread nD τ).loc main_v0) = res m c ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) ∧ r.2.mem ((c : Thread nD τ).loc main_arg7) = m ((c : Thread nD τ).loc main_arg7) ∧ r.2.mem ((c : Thread nD τ).loc main_arg8) = m ((c : Thread nD τ).loc main_arg8) ∧ r.2.mem ((c : Thread nD τ).loc main_arg9) = m ((c : Thread nD τ).loc main_arg9) ∧ r.2.mem ((c : Thread nD τ).loc main_arg10) = m ((c : Thread nD τ).loc main_arg10) ∧ r.2.mem ((c : Thread nD τ).loc main_arg11) = m ((c : Thread nD τ).loc main_arg11))
      ∧ r.2.sem = fun _ => 0) := by
  refine (θ_run defs _ _).mono (fun r h => ⟨fun c => ⟨?_, ?_, ?_, ?_, ?_, ?_, ?_, ?_, ?_, ?_, ?_, ?_, ?_⟩, h.2⟩) (run_main m ρ)
  · exact ((h.1 c).2 main_v0 rest_v0).trans (tail_v0 m c)
  · exact frame_post m h.1 c main_arg0 (.inr ⟨0, by decide, rfl⟩) (by decide) (by decide)
  · exact frame_post m h.1 c main_arg1 (.inl ⟨by decide, by decide, by decide⟩) (by decide) (by decide)
  · exact frame_post m h.1 c main_arg2 (.inr ⟨1, by decide, rfl⟩) (by decide) (by decide)
  · exact frame_post m h.1 c main_arg3 (.inr ⟨2, by decide, rfl⟩) (by decide) (by decide)
  · exact frame_post m h.1 c main_arg4 (.inr ⟨3, by decide, rfl⟩) (by decide) (by decide)
  · exact frame_post m h.1 c main_arg5 (.inl ⟨by decide, by decide, by decide⟩) (by decide) (by decide)
  · exact frame_post m h.1 c main_arg6 (.inr ⟨4, by decide, rfl⟩) (by decide) (by decide)
  · exact frame_post m h.1 c main_arg7 (.inr ⟨5, by decide, rfl⟩) (by decide) (by decide)
  · exact frame_post m h.1 c main_arg8 (.inl ⟨by decide, by decide, by decide⟩) (by decide) (by decide)
  · exact frame_post m h.1 c main_arg9 (.inr ⟨7, by decide, rfl⟩) (by decide) (by decide)
  · exact frame_post m h.1 c main_arg10 (.inr ⟨8, by decide, rfl⟩) (by decide) (by decide)
  · exact frame_post m h.1 c main_arg11 (.inl ⟨by decide, by decide, by decide⟩) (by decide) (by decide)

end Cert.KernelIdeal.Sgcm

end
-- ==== Proof.Conv.lean ====
/- The two-layer weighted graph convolution over the extended reals, one graph at a time, and the sums its kernel and its
   reference meet at. -/
module

public import Idealize.ShloMosaic.PureOps.Ideal
public import Mathlib.Algebra.BigOperators.Fin
public import Mathlib.Algebra.BigOperators.Intervals

@[expose] public section

noncomputable section

namespace Cert.Sgcm

open Idealize.ShloMosaic
open scoped BigOperators

/-- What node `a` gathers along its edges: over the edges that end at `a`, the weight times the source's feature. -/
def nbr {e n f : ℕ} (s d : Fin e → Fin n) (w : Fin e → EReal) (h : Fin n → Fin f → EReal) (a : Fin n) (b : Fin f) : EReal :=
  ∑ j, if d j = a then w j * h (s j) b else 0

/-- A node's feature after a layer, from its own features `h` and the gathered ones `g`. -/
def node {k f : ℕ} (ws wn : Fin k → Fin f → EReal) (bias : Fin f → EReal) (h g : Fin k → EReal) (b : Fin f) : EReal :=
  Ideal.tanh (∑ j, h j * ws j b + ∑ j, g j * wn j b + bias b)

/-- The features with node `p`'s row replaced by `x`. -/
def put {n f : ℕ} (p : Fin n) (x : Fin f → EReal) (h : Fin n → Fin f → EReal) (a : Fin n) (b : Fin f) : EReal :=
  if a = p then x b else h a b

/-- One layer on every node. -/
def layer {e n f : ℕ} (s d : Fin e → Fin n) (w : Fin e → EReal) (ws wn : Fin f → Fin f → EReal) (bias : Fin f → EReal)
    (h : Fin n → Fin f → EReal) (a : Fin n) : Fin f → EReal :=
  node ws wn bias (h a) (nbr s d w h a)

/-- THE CONVOLUTION'S ROW: the new node's features after the two layers. -/
def answer {e n f : ℕ} (p : Fin n) (x : Fin f → EReal) (h : Fin n → Fin f → EReal) (s d : Fin e → Fin n) (w : Fin e → EReal)
    (w1s w1n : Fin f → Fin f → EReal) (b1 : Fin f → EReal) (w2s w2n : Fin f → Fin f → EReal) (b2 : Fin f → EReal) : Fin f → EReal :=
  layer s d w w2s w2n b2 (layer s d w w1s w1n b1 (put p x h)) p

/-! ## Sums by chunks of 256 -/

/-- The sum of the first `k` chunks of 256 terms. -/
def part {E : ℕ} (g : Fin E → EReal) (k : ℕ) : EReal :=
  ∑ e ∈ Finset.range (256 * k), if h : e < E then g ⟨e, h⟩ else 0

/-- No chunk yet: the partial sum is zero. -/
theorem part_zero {E : ℕ} (g : Fin E → EReal) : part g 0 = 0 := by simp [part]

/-- One chunk more. -/
theorem part_succ {E : ℕ} (g : Fin E → EReal) (k : ℕ) (hk : 256 * k + 256 ≤ E) :
    part g (k + 1) = part g k + ∑ x : Fin 256, g ⟨256 * k + x.val, by have := x.isLt; omega⟩ := by
  unfold part
  rw [show 256 * (k + 1) = 256 * k + 256 from by omega, Finset.sum_range_add, Finset.sum_range (n := 256)]
  refine congrArg _ (Finset.sum_congr rfl fun x _ => ?_)
  rw [dif_pos]

/-- All the chunks make the whole sum. -/
theorem part_all {E : ℕ} (g : Fin E → EReal) (k : ℕ) (hk : 256 * k = E) : part g k = ∑ e, g e := by
  unfold part
  rw [hk, Finset.sum_range]
  refine Finset.sum_congr rfl fun x _ => ?_
  rw [dif_pos x.isLt]

/-- A sum over one tile that keeps the term of one row: that row's term if the row lies in the tile. -/
theorem tile_pick (t : ℕ) (n : ℕ) (g : Fin 256 → EReal) :
    (∑ x : Fin 256, if 256 * t + x.val = n then g x else 0)
      = if n / 256 = t then g ⟨n % 256, Nat.mod_lt _ (by decide)⟩ else 0 := by
  by_cases h : n / 256 = t
  · rw [if_pos h, Finset.sum_eq_single (⟨n % 256, Nat.mod_lt _ (by decide)⟩ : Fin 256), if_pos]
    · show 256 * t + n % 256 = n; omega
    · intro x _ hx
      rw [if_neg]
      intro hc
      refine hx (Fin.ext ?_)
      show x.val = n % 256
      have := x.isLt; omega
    · intro hx; exact absurd (Finset.mem_univ _) hx
  · rw [if_neg h]
    refine Finset.sum_eq_zero fun x _ => if_neg ?_
    have := x.isLt; omega

end Cert.Sgcm

end
-- ==== Proof.IdealPays.lean ====
/- The values that the body stores, read at an index over the extended reals. -/
module

public import proofs.«01_k».proof.Proof.IdealPost
public import proofs.«01_k».proof.Proof.Conv
public import Idealize.ShloMosaic.Lib.Pointwise

@[expose] public section

set_option maxRecDepth 16384

noncomputable section

namespace Cert.KernelIdeal.Sgcm

open Cert.KernelIdeal Cert.KernelIdeal.Gen
open Idealize.ShloMosaic Idealize.ShloMosaic.Tactic
open scoped BigOperators

/-- How often loop 2 runs. -/
theorem trips2 : k0_t2_loop.trips = 256 := by decide +kernel
/-- How often loop 3 runs. -/
theorem trips3 : k0_t3_loop.trips = 16 := by decide +kernel
/-- How often loop 4 runs. -/
theorem trips4 : k0_t4_loop.trips = 16 := by decide +kernel
/-- How often loop 5 runs. -/
theorem trips5 : k0_t5_loop.trips = 16 := by decide +kernel
/-- How often loop 6 runs. -/
theorem trips6 : k0_t6_loop.trips = 256 := by decide +kernel
/-- How often loop 7 runs. -/
theorem trips7 : k0_t7_loop.trips = 16 := by decide +kernel
/-- How often loop 8 runs. -/
theorem trips8 : k0_t8_loop.trips = 16 := by decide +kernel

/-- Row `r` of tile `t`, as the word the body computes. -/
theorem row_word (t r : ℕ) (ht : t < 16) (hr : r < 256) :
    IntOp.addi (BitVec.ofNat 32 r) (Scalar.muli (Scf.iv 0#32 1#32 t) 256#32) = BitVec.ofNat 32 (256 * t + r) := by
  have e : Scf.iv 0#32 1#32 t = BitVec.ofNat 32 t := by
    unfold Scf.iv
    simp
  rw [e]
  apply BitVec.eq_of_toNat_eq
  show (BitVec.ofNat 32 r + BitVec.ofNat 32 t * 256#32).toNat = _
  simp only [BitVec.toNat_add, BitVec.toNat_mul, BitVec.toNat_ofNat]
  omega

/-- The body's test whether two row numbers agree. -/
theorem word_eq (a b : ℕ) (ha : a < 2 ^ 32) (hb : b < 2 ^ 32) :
    IntOp.cmpi .eq (BitVec.ofNat 32 a) (BitVec.ofNat 32 b) = BitVec.ofBool (decide (a = b)) := by
  show BitVec.ofBool (BitVec.ofNat 32 a == BitVec.ofNat 32 b) = _
  congr 1
  rw [Bool.eq_iff_iff]
  simp only [beq_iff_eq, decide_eq_true_eq]
  constructor
  · intro h
    have h2 := congrArg BitVec.toNat h
    simp only [BitVec.toNat_ofNat] at h2
    rwa [Nat.mod_eq_of_lt ha, Nat.mod_eq_of_lt hb] at h2
  · rintro rfl; rfl

/-- A choice by that test. -/
theorem select_ofBool {α : Type} (p : Prop) [Decidable p] (x y : α) : Scalar.select (BitVec.ofBool (decide p)) x y = if p then x else y := by
  by_cases h : p
  · rw [if_pos h, decide_eq_true h]; rfl
  · rw [if_neg h, decide_eq_false h]; rfl

/-- The test as a number, times a value. -/
theorem indicator_mul (p : Prop) [Decidable p] (y : EReal) :
    (FloatOps.sitofp (F := Ideal) FTy.f32 (BitVec.setWidth 32 (BitVec.ofBool (decide p))) : EReal) * y = if p then y else 0 := by
  by_cases h : p
  · rw [if_pos h, decide_eq_true h]
    show (((BitVec.setWidth 32 (BitVec.ofBool true)).toInt : ℝ) : EReal) * y = y
    have : (BitVec.setWidth 32 (BitVec.ofBool true)).toInt = 1 := by decide
    rw [this]; simp
  · rw [if_neg h, decide_eq_false h]
    show (((BitVec.setWidth 32 (BitVec.ofBool false)).toInt : ℝ) : EReal) * y = 0
    have : (BitVec.setWidth 32 (BitVec.ofBool false)).toInt = 0 := by decide
    rw [this]; simp

/-- The output row: the tanh of the self term, the gathered term and the bias. -/
theorem pay1_at (v13 v18 : FVec Ideal S1x128 .f32) (v19 : Vec Ideal S128x128 .f32) (v22 : Vec Ideal S1x128 .f32) (u v : Fin 1) (f : Fin 128) :
    k0_pay1 (F := Ideal) v13 v18 v19 v22 (ix3 u v f)
      = Ideal.tanh (v18 (ix2 0 f) + ∑ x : Fin 128, v13 (ix2 0 x) * v19 (ix2 x f) + v22 (ix2 0 f)) := by
  pointwise [k0_pay1]

/-- A tile of the features at the start: the new node at its position, the old ones elsewhere. -/
theorem pay2_at (p : Fin 4096) (v2 : Vec Ideal S1x1x128 .f32) (t : Fin k0_t1_loop.trips) (v35 : Vec Ideal S1x256x128 .f32) (r : Fin 256) (f : Fin 128) :
    k0_pay2 (F := Ideal) (BitVec.ofNat 32 p.val) v2 t v35 (ix2 r f) = if 256 * t.val + r.val = p.val then v2 (ix3 0 0 f) else v35 (ix3 0 r f) := by
  have ht : t.val < 16 := lt_of_lt_of_eq t.isLt trips1
  have hr := r.isLt
  have hp := p.isLt
  pointwise [k0_pay2]
  rw [row_word _ _ ht hr, word_eq _ _ (by omega) (by omega), select_ofBool]

/-- The cleared aggregate is zero. -/
theorem pay3_at (r : Fin 256) (f : Fin 128) : k0_pay3 (F := Ideal) (ix2 r f) = 0 := by
  pointwise [k0_pay3]
/-- The gather starts from zero. -/
theorem pay4_at (r : Fin 256) (f : Fin 128) : k0_pay4 (F := Ideal) (ix2 r f) = 0 := by
  pointwise [k0_pay4]
/-- The second layer's gather starts from zero. -/
theorem pay9_at (r : Fin 256) (f : Fin 128) : k0_pay9 (F := Ideal) (ix2 r f) = 0 := by
  pointwise [k0_pay9]
/-- The second layer's aggregate starts from zero. -/
theorem pay8_at (u : Fin 1) (f : Fin 128) : k0_pay8 (F := Ideal) (ix2 u f) = 0 := by
  pointwise [k0_pay8]
/-- The search for the row starts from zero. -/
theorem pay12_at (u : Fin 1) (f : Fin 128) : k0_pay12 (F := Ideal) (ix2 u f) = 0 := by
  pointwise [k0_pay12]

/-- One tile's share of the gather: the source's row when the tile holds it, else nothing. -/
theorem pay5_at (v31 : Vec Ideal S1x1x256 .i32) (t : Fin k0_t3_loop.trips) (acc : FVec Ideal S256x128 .f32) (v58 : Vec Ideal S256x128 .f32)
    (r : Fin 256) (f : Fin 128) (s : Fin 4096) (hs : v31 (ix3 0 0 r) = BitVec.ofNat 32 s.val) :
    k0_pay5 (F := Ideal) v31 t acc v58 (ix2 r f) = acc (ix2 r f) + ∑ x : Fin 256, if 256 * t.val + x.val = s.val then v58 (ix2 x f) else 0 := by
  have ht : t.val < 16 := lt_of_lt_of_eq t.isLt trips3
  have hs' := s.isLt
  pointwise [k0_pay5]
  refine congrArg _ (Finset.sum_congr rfl fun x _ => ?_)
  have hx := x.isLt
  rw [row_word _ _ ht hx, hs, word_eq _ _ (by omega) (by omega), indicator_mul]

/-- The same in the second layer. -/
theorem pay10_at (v31 : Vec Ideal S1x1x256 .i32) (t : Fin k0_t7_loop.trips) (acc : FVec Ideal S256x128 .f32) (v58 : Vec Ideal S256x128 .f32)
    (r : Fin 256) (f : Fin 128) (s : Fin 4096) (hs : v31 (ix3 0 0 r) = BitVec.ofNat 32 s.val) :
    k0_pay10 (F := Ideal) v31 t acc v58 (ix2 r f) = acc (ix2 r f) + ∑ x : Fin 256, if 256 * t.val + x.val = s.val then v58 (ix2 x f) else 0 := by
  have ht : t.val < 16 := lt_of_lt_of_eq t.isLt trips7
  have hs' := s.isLt
  pointwise [k0_pay10]
  refine congrArg _ (Finset.sum_congr rfl fun x _ => ?_)
  have hx := x.isLt
  rw [row_word _ _ ht hx, hs, word_eq _ _ (by omega) (by omega), indicator_mul]

/-- One tile's share of the scatter: each edge of the chunk that ends at the row adds its weighted message. -/
theorem pay6_at (v36 : Vec Ideal S1x1x256 .i32) (v41 : Vec Ideal S1x1x256 .f32) (v46 : FVec Ideal S256x128 .f32) (t : Fin k0_t4_loop.trips)
    (v60 : Vec Ideal S256x128 .f32) (r : Fin 256) (f : Fin 128) (d : Fin 256 → Fin 4096) (hd : ∀ x, v36 (ix3 0 0 x) = BitVec.ofNat 32 (d x).val) :
    k0_pay6 (F := Ideal) v36 v41 v46 t v60 (ix2 r f)
      = v60 (ix2 r f) + ∑ x : Fin 256, if (d x).val = 256 * t.val + r.val then v41 (ix3 0 0 x) * v46 (ix2 x f) else 0 := by
  have ht : t.val < 16 := lt_of_lt_of_eq t.isLt trips4
  have hr := r.isLt
  pointwise [k0_pay6]
  refine congrArg _ (Finset.sum_congr rfl fun x _ => ?_)
  have hx := (d x).isLt
  rw [row_word _ _ ht hr, hd, word_eq _ _ (by omega) (by omega), select_ofBool]
  by_cases h : (d x).val = 256 * t.val + r.val
  · rw [if_pos h, if_pos h.symm]
  · rw [if_neg h, if_neg (Ne.symm h)]

/-- One node's features after the first layer. -/
theorem pay7_at (v6 v7 : Vec Ideal S128x128 .f32) (v8 : Vec Ideal S1x128 .f32) (v31 v34 : Vec Ideal S256x128 .f32) (r : Fin 256) (f : Fin 128) :
    k0_pay7 (F := Ideal) v6 v7 v8 v31 v34 (ix2 r f)
      = Ideal.tanh (∑ x : Fin 128, v31 (ix2 r x) * v6 (ix2 x f) + ∑ x : Fin 128, v34 (ix2 r x) * v7 (ix2 x f) + v8 (ix2 0 f)) := by
  pointwise [k0_pay7]

/-- A chunk's share of the second aggregate: the edges that end at the wanted node. -/
theorem pay11_at (p : Fin 4096) (acc : FVec Ideal S1x128 .f32) (v36 : Vec Ideal S1x1x256 .i32) (v41 : Vec Ideal S1x1x256 .f32)
    (v46 : FVec Ideal S256x128 .f32) (u : Fin 1) (f : Fin 128) (d : Fin 256 → Fin 4096) (hd : ∀ x, v36 (ix3 0 0 x) = BitVec.ofNat 32 (d x).val) :
    k0_pay11 (F := Ideal) (BitVec.ofNat 32 p.val) acc v36 v41 v46 (ix2 u f)
      = acc (ix2 u f) + ∑ x : Fin 256, if (d x).val = p.val then v41 (ix3 0 0 x) * v46 (ix2 x f) else 0 := by
  have hp := p.isLt
  pointwise [k0_pay11]
  refine congrArg _ (Finset.sum_congr rfl fun x _ => ?_)
  have hx := (d x).isLt
  rw [hd, word_eq _ _ (by omega) (by omega), select_ofBool]

/-- A tile's share of the search: the wanted row when the tile holds it, else nothing. -/
theorem pay13_at (p : Fin 4096) (t : Fin k0_t8_loop.trips) (acc : FVec Ideal S1x128 .f32) (v35 : Vec Ideal S256x128 .f32) (u : Fin 1) (f : Fin 128) :
    k0_pay13 (F := Ideal) (BitVec.ofNat 32 p.val) t acc v35 (ix2 u f)
      = acc (ix2 u f) + ∑ x : Fin 256, if 256 * t.val + x.val = p.val then v35 (ix2 x f) else 0 := by
  have ht : t.val < 16 := lt_of_lt_of_eq t.isLt trips8
  have hp := p.isLt
  pointwise [k0_pay13]
  refine congrArg _ (Finset.sum_congr rfl fun x _ => ?_)
  have hx := x.isLt
  rw [row_word _ _ ht hx, word_eq _ _ (by omega) (by omega), select_ofBool]

/-- The self term: the row times the matrix. -/
theorem pay14_at (v16 : FVec Ideal S1x128 .f32) (v17 : Vec Ideal S128x128 .f32) (u : Fin 1) (f : Fin 128) :
    k0_pay14 (F := Ideal) v16 v17 (ix2 u f) = ∑ x : Fin 128, v16 (ix2 u x) * v17 (ix2 x f) := by
  pointwise [k0_pay14]

end Cert.KernelIdeal.Sgcm

end
-- ==== Proof.IdealValue.lean ====
/- The kernel's output row over the extended reals: what each loop leaves at an index, up to the convolution's row. -/
module

public import proofs.«01_k».proof.Proof.IdealPays

@[expose] public section

set_option maxRecDepth 16384

noncomputable section

namespace Cert.KernelIdeal.Sgcm

open Cert.KernelIdeal Cert.KernelIdeal.Gen Cert.Sgcm
open Idealize.ShloMosaic Idealize.ShloMosaic.Tactic
open scoped BigOperators

/-- The rows of an array of node features. -/
abbrev feat (H : Vec Ideal S4096x128 .f32) : Fin 4096 → Fin 128 → EReal := fun a b => H (at2 a b)

/-- A row by its tile and its place in the tile. -/
theorem at2_glob {T : ℕ} (hT : T ≤ 16) (a : Fin 4096) (h : a.val / 256 < T) (b : Fin 128) : at2 (glob hT ⟨a.val / 256, h⟩ (loc a)) b = at2 a b := by
  have : glob hT ⟨a.val / 256, h⟩ (loc a) = a := Fin.ext (by show 256 * (a.val / 256) + a.val % 256 = a.val; omega)
  rw [this]

/-- Selecting a row within one tile gives the row if it lies in the tile. -/
theorem tile_sum {T : ℕ} (hT : T ≤ 16) (H : Vec Ideal S4096x128 .f32) (t : Fin T) (off : Fin 2 → ℕ) (hoff : off = ![256 * t.val, 0])
    (inb : ∀ a, off a + S256x128.size a ≤ S4096x128.size a) (n : Fin 4096) (f : Fin 128) :
    (∑ x : Fin 256, if 256 * t.val + x.val = n.val then (VecWindow.window (s := S4096x128) H off S256x128.size inb (ix2 x f) : EReal) else 0)
      = if n.val / 256 = t.val then feat H n f else 0 := by
  rw [← tile_pick t.val n.val (fun _ => feat H n f)]
  refine Finset.sum_congr rfl fun x _ => ?_
  by_cases h : 256 * t.val + x.val = n.val
  · rw [if_pos h, if_pos h]
    refine (window_tile hT H t off hoff inb x f).trans ?_
    have e : glob hT t x = n := Fin.ext h
    rw [e]
  · rw [if_neg h, if_neg h]

/-- The step of a running selection: one tile more. -/
theorem sel_step (n k : ℕ) (y : EReal) : (if n / 256 < k then y else 0) + (if n / 256 = k then y else 0) = if n / 256 < k + 1 then y else 0 := by
  by_cases h : n / 256 < k
  · rw [if_pos h, if_neg (by omega), if_pos (by omega), add_zero]
  · by_cases h2 : n / 256 = k
    · rw [if_neg h, if_pos h2, if_pos (by omega), zero_add]
    · rw [if_neg h, if_neg h2, if_neg (by omega), zero_add]

/-- THE GATHER: row `r` of the gathered chunk is the row that edge `r` names. -/
theorem gath_at (v31 : Vec Ideal S1x1x256 .i32) (H : Vec Ideal S4096x128 .f32) (r : Fin 256) (f : Fin 128) (s : Fin 4096)
    (hs : v31 (ix3 0 0 r) = BitVec.ofNat 32 s.val) : gath v31 H k0_t3_loop.trips (ix2 r f) = feat H s f := by
  have h : ∀ k, k ≤ 16 → (gath v31 H k (ix2 r f) : EReal) = if s.val / 256 < k then feat H s f else 0 := by
    intro k
    induction k with
    | zero => intro _; rw [if_neg (by omega)]; exact pay4_at r f
    | succ k ih =>
      intro hk
      have hk' : k < k0_t3_loop.trips := by rw [trips3]; omega
      rw [gath_succ v31 H ⟨k, hk'⟩]
      refine (pay5_at _ _ _ _ r f s hs).trans ?_
      rw [tile_sum (le_of_eq trips3) H ⟨k, hk'⟩ _ (k0_off7_eq _) _ s f, ih (by omega)]
      exact sel_step _ _ _
  rw [h _ (le_of_eq trips3), if_pos]
  have := s.isLt; rw [trips3]; omega

/-- The second layer's gather gives the source's features. -/
theorem gath2_at (v31 : Vec Ideal S1x1x256 .i32) (H : Vec Ideal S4096x128 .f32) (r : Fin 256) (f : Fin 128) (s : Fin 4096)
    (hs : v31 (ix3 0 0 r) = BitVec.ofNat 32 s.val) : gath2 v31 H k0_t7_loop.trips (ix2 r f) = feat H s f := by
  have h : ∀ k, k ≤ 16 → (gath2 v31 H k (ix2 r f) : EReal) = if s.val / 256 < k then feat H s f else 0 := by
    intro k
    induction k with
    | zero => intro _; rw [if_neg (by omega)]; exact pay9_at r f
    | succ k ih =>
      intro hk
      have hk' : k < k0_t7_loop.trips := by rw [trips7]; omega
      rw [gath2_succ v31 H ⟨k, hk'⟩]
      refine (pay10_at _ _ _ _ r f s hs).trans ?_
      rw [tile_sum (le_of_eq trips7) H ⟨k, hk'⟩ _ (k0_off13_eq _) _ s f, ih (by omega)]
      exact sel_step _ _ _
  rw [h _ (le_of_eq trips7), if_pos]
  have := s.isLt; rw [trips7]; omega

/-- THE SELECTION: the row at the position. -/
theorem pick_at (p : Fin 4096) (H : Vec Ideal S4096x128 .f32) (f : Fin 128) :
    pick (BitVec.ofNat 32 p.val) H k0_t8_loop.trips (ix2 0 f) = feat H p f := by
  have h : ∀ k, k ≤ 16 → (pick (F := Ideal) (BitVec.ofNat 32 p.val) H k (ix2 0 f) : EReal) = if p.val / 256 < k then feat H p f else 0 := by
    intro k
    induction k with
    | zero => intro _; rw [if_neg (by omega)]; exact pay12_at 0 f
    | succ k ih =>
      intro hk
      have hk' : k < k0_t8_loop.trips := by rw [trips8]; omega
      rw [pick_succ _ H ⟨k, hk'⟩]
      refine (pay13_at p _ _ _ 0 f).trans ?_
      rw [tile_sum (le_of_eq trips8) H ⟨k, hk'⟩ _ (k0_off14_eq _) _ p f, ih (by omega)]
      exact sel_step _ _ _
  rw [h _ (le_of_eq trips8), if_pos]
  have := p.isLt; rw [trips8]; omega

/-- THE SCATTER: each row gets the weighted rows of the chunk's edges that end there. -/
theorem scat_at (v36 : Vec Ideal S1x1x256 .i32) (v41 : Vec Ideal S1x1x256 .f32) (v46 : FVec Ideal S256x128 .f32) (A : Vec Ideal S4096x128 .f32)
    (d : Fin 256 → Fin 4096) (hd : ∀ x, v36 (ix3 0 0 x) = BitVec.ofNat 32 (d x).val) (a : Fin 4096) (b : Fin 128) :
    scat v36 v41 v46 A k0_t4_loop.trips (at2 a b) = feat A a b + ∑ x : Fin 256, if d x = a then v41 (ix3 0 0 x) * v46 (ix2 x b) else 0 := by
  refine (tiles_all trips4 (scat v36 v41 v46 A) k0_off8 k0_off8_eq k0_off8_inb (fun k w => k0_pay6 v36 v41 v46 k w) (fun k => scat_succ _ _ _ _ k) a b).trans ?_
  refine (pay6_at _ _ _ _ _ _ _ d hd).trans ?_
  have e1 := window_tile (le_of_eq trips4) A ⟨a.val / 256, by have := a.isLt; rw [trips4]; omega⟩ _ (k0_off8_eq _) (k0_off8_inb _) (loc a) b
  rw [at2_glob] at e1
  refine congrArg₂ (fun y z : EReal => y + z) e1 (Finset.sum_congr rfl fun x _ => ?_)
  refine if_congr ?_ rfl rfl
  show (d x).val = 256 * (a.val / 256) + a.val % 256 ↔ _
  rw [Fin.ext_iff]
  omega

/-- A chunk of the edges' ends or weights, read at an index. -/
theorem chunk_at {α : Type} {R : ℕ} (X : (⟨3, ![1, R, 65536]⟩ : Shape).Idx → α) (j : Fin R) (k : ℕ) (hk : k < 256) (off : Fin 3 → ℕ) (hoff : off = ![0, j.val, 256 * k])
    (inb : ∀ a, off a + S1x1x256.size a ≤ (⟨3, ![1, R, 65536]⟩ : Shape).size a) (x : Fin 256) :
    VecWindow.window (s := ⟨3, ![1, R, 65536]⟩) X off S1x1x256.size inb (ix3 0 0 x) = X (ix3 0 j ⟨256 * k + x.val, by have := x.isLt; omega⟩) := by
  subst hoff
  refine congrArg X (funext fun d => Fin.ext ?_)
  match d with
  | ⟨0, _⟩ => rfl
  | ⟨1, _⟩ => show j.val + 1 * 0 = j.val; omega
  | ⟨2, _⟩ => show 256 * k + 1 * x.val = 256 * k + x.val; omega

section Edges

variable (E : Vec Ideal S1x2x65536 .i32) (W : Vec Ideal S1x1x65536 .f32) (s d : Fin 65536 → Fin 4096)
  (hs : ∀ e, E (ix3 0 0 e) = BitVec.ofNat 32 (s e).val) (hd : ∀ e, E (ix3 0 1 e) = BitVec.ofNat 32 (d e).val)

include hs hd

/-- THE FIRST LAYER'S MESSAGES: each node's aggregate gets its edges' weighted source rows. -/
theorem agg_at (H A : Vec Ideal S4096x128 .f32) (a : Fin 4096) (b : Fin 128) :
    feat (agg E W H A k0_t2_loop.trips) a b = feat A a b + nbr s d (fun e => W (ix3 0 0 e)) (feat H) a b := by
  have h : ∀ k, k ≤ 256 → feat (agg E W H A k) a b = feat A a b + part (fun e => if d e = a then (W (ix3 0 0 e) : EReal) * feat H (s e) b else 0) k := by
    intro k
    induction k with
    | zero => intro _; rw [part_zero, add_zero]; rfl
    | succ k ih =>
      intro hk
      have hk' : k < k0_t2_loop.trips := by rw [trips2]; omega
      rw [part_succ _ k (by omega), ← add_assoc, ← ih (by omega)]
      show agg E W H A (k + 1) (at2 a b) = _
      rw [agg_succ E W H A ⟨k, hk'⟩]
      have hd' : ∀ x : Fin 256, dsts E ⟨k, hk'⟩ (ix3 0 0 x) = BitVec.ofNat 32 (d ⟨256 * k + x.val, by have := x.isLt; omega⟩).val := fun x =>
        (chunk_at (R := 2) E 1 k (by omega) _ (k0_off5_eq _) (k0_off5_inb _) x).trans (hd _)
      have hs' : ∀ x : Fin 256, srcs E ⟨k, hk'⟩ (ix3 0 0 x) = BitVec.ofNat 32 (s ⟨256 * k + x.val, by have := x.isLt; omega⟩).val := fun x =>
        (chunk_at (R := 2) E 0 k (by omega) _ (k0_off4_eq _) (k0_off4_inb _) x).trans (hs _)
      refine (scat_at _ _ _ _ _ hd' a b).trans ?_
      refine congrArg _ (Finset.sum_congr rfl fun x _ => ?_)
      rw [gath_at _ H x b _ (hs' x), show wts W ⟨k, hk'⟩ (ix3 0 0 x) = _ from chunk_at (R := 1) W 0 k (by omega) _ (k0_off6_eq _) (k0_off6_inb _) x]
  rw [h _ (le_of_eq trips2), part_all _ _ (by rw [trips2])]
  rfl

/-- THE SECOND LAYER'S MESSAGES at the position. -/
theorem agg2_at (p : Fin 4096) (H : Vec Ideal S4096x128 .f32) (b : Fin 128) :
    agg2 (BitVec.ofNat 32 p.val) E W H k0_t6_loop.trips (ix2 0 b) = nbr s d (fun e => W (ix3 0 0 e)) (feat H) p b := by
  have h : ∀ k, k ≤ 256 → (agg2 (F := Ideal) (BitVec.ofNat 32 p.val) E W H k (ix2 0 b) : EReal)
      = part (fun e => if d e = p then (W (ix3 0 0 e) : EReal) * feat H (s e) b else 0) k := by
    intro k
    induction k with
    | zero => intro _; rw [part_zero]; exact pay8_at 0 b
    | succ k ih =>
      intro hk
      have hk' : k < k0_t6_loop.trips := by rw [trips6]; omega
      rw [part_succ _ k (by omega), ← ih (by omega)]
      rw [agg2_succ _ E W H ⟨k, hk'⟩]
      have hd' : ∀ x : Fin 256, dsts2 E ⟨k, hk'⟩ (ix3 0 0 x) = BitVec.ofNat 32 (d ⟨256 * k + x.val, by have := x.isLt; omega⟩).val := fun x =>
        (chunk_at (R := 2) E 1 k (by omega) _ (k0_off11_eq _) (k0_off11_inb _) x).trans (hd _)
      have hs' : ∀ x : Fin 256, srcs2 E ⟨k, hk'⟩ (ix3 0 0 x) = BitVec.ofNat 32 (s ⟨256 * k + x.val, by have := x.isLt; omega⟩).val := fun x =>
        (chunk_at (R := 2) E 0 k (by omega) _ (k0_off10_eq _) (k0_off10_inb _) x).trans (hs _)
      refine (pay11_at p _ _ _ _ 0 b _ hd').trans ?_
      refine congrArg _ (Finset.sum_congr rfl fun x _ => ?_)
      rw [gath2_at _ H x b _ (hs' x), show wts2 W ⟨k, hk'⟩ (ix3 0 0 x) = _ from chunk_at (R := 1) W 0 k (by omega) _ (k0_off12_eq _) (k0_off12_inb _) x]
      exact if_congr (by rw [Fin.ext_iff]) rfl rfl
  rw [h _ (le_of_eq trips6), part_all _ _ (by rw [trips6])]
  rfl

end Edges

/-- A tile of the nodes, read at an index. -/
theorem nodes_tile (N : Vec Ideal S1x4096x128 .f32) (t : ℕ) (off : Fin 3 → ℕ) (hoff : off = ![0, 256 * t, 0])
    (inb : ∀ a, off a + S1x256x128.size a ≤ S1x4096x128.size a) (a : Fin 4096) (b : Fin 128) (h : a.val / 256 = t) :
    VecWindow.window N off S1x256x128.size inb (ix3 0 (loc a) b) = N (ix3 0 a b) := by
  subst hoff
  refine congrArg N (funext fun d => Fin.ext ?_)
  match d with
  | ⟨0, _⟩ => rfl
  | ⟨1, _⟩ => show 256 * t + 1 * (a.val % 256) = a.val; omega
  | ⟨2, _⟩ => show 0 + 1 * b.val = b.val; omega

/-- The features at the start: the graph's nodes with the new row put in. -/
theorem feat0_eq (i : grid0.Coords) (T : Vec Ideal S8 .i32) (x : Vec Ideal S1x1x128 .f32) (N : Vec Ideal S1x4096x128 .f32) (X : Vec Ideal S4096x128 .f32)
    (p : Fin 4096) (hp : pos i T = BitVec.ofNat 32 p.val) :
    feat (feat0 i T x N X) = put p (fun f => x (ix3 0 0 f)) (fun a b => N (ix3 0 a b)) := by
  funext a b
  refine (feat0_at i T x N X a b).trans ?_
  rw [hp]
  refine (pay2_at p x _ _ (loc a) b).trans ?_
  have hw : VecWindow.window N (k0_off2 ⟨a.val / 256, by have := a.isLt; rw [trips1]; omega⟩) S1x256x128.size (k0_off2_inb _) (ix3 0 (loc a) b) = N (ix3 0 a b) := by
    exact nodes_tile N _ _ (k0_off2_eq _) _ a b rfl
  rw [hw]
  unfold put
  refine if_congr ?_ rfl rfl
  show 256 * (a.val / 256) + a.val % 256 = p.val ↔ _
  rw [Fin.ext_iff]
  omega

/-- THE FIRST LAYER'S COMBINATION at an index. -/
theorem comb_at (v6 v7 : Vec Ideal S128x128 .f32) (v8 : Vec Ideal S1x128 .f32) (A H : Vec Ideal S4096x128 .f32) (a : Fin 4096) :
    feat (comb v6 v7 v8 A H k0_t5_loop.trips) a = node (fun k f => v6 (ix2 k f)) (fun k f => v7 (ix2 k f)) (fun f => v8 (ix2 0 f)) (feat H a) (feat A a) := by
  funext b
  refine (tiles_all trips5 (comb v6 v7 v8 A H) k0_off9 k0_off9_eq k0_off9_inb
    (fun k w => k0_pay7 v6 v7 v8 w (VecWindow.window A (k0_off9 k) S256x128.size (k0_off9_inb k))) (fun k => comb_succ _ _ _ _ _ k) a b).trans ?_
  refine (pay7_at _ _ _ _ _ _ _).trans ?_
  have e : ∀ (B : Vec Ideal S4096x128 .f32) (x : Fin 128), VecWindow.window B (k0_off9 ⟨a.val / 256, by have := a.isLt; rw [trips5]; omega⟩) S256x128.size (k0_off9_inb _) (ix2 (loc a) x) = feat B a x := by
    intro B x
    have e1 := window_tile (le_of_eq trips5) B ⟨a.val / 256, by have := a.isLt; rw [trips5]; omega⟩ _ (k0_off9_eq _) (k0_off9_inb _) (loc a) x
    rw [at2_glob] at e1
    exact e1
  unfold node
  simp only [e]
  rfl

/-- THE OUTPUT ROW of a graph is the convolution's row. -/
theorem outOf_at (i : grid0.Coords) (T : Vec Ideal S8 .i32) (x : Vec Ideal S1x1x128 .f32) (N : Vec Ideal S1x4096x128 .f32)
    (E : Vec Ideal S1x2x65536 .i32) (W : Vec Ideal S1x1x65536 .f32) (w1s w1n : Vec Ideal S128x128 .f32) (b1 : Vec Ideal S1x128 .f32)
    (w2s w2n : Vec Ideal S128x128 .f32) (b2 : Vec Ideal S1x128 .f32)
    (p : Fin 4096) (hp : pos i T = BitVec.ofNat 32 p.val) (s d : Fin 65536 → Fin 4096)
    (hs : ∀ e, E (ix3 0 0 e) = BitVec.ofNat 32 (s e).val) (hd : ∀ e, E (ix3 0 1 e) = BitVec.ofNat 32 (d e).val) (f : Fin 128) :
    outOf i T x N E W w1s w1n b1 w2s w2n b2 (ix3 0 0 f)
      = answer p (fun f => x (ix3 0 0 f)) (fun a b => N (ix3 0 a b)) s d (fun e => W (ix3 0 0 e))
          (fun k f => w1s (ix2 k f)) (fun k f => w1n (ix2 k f)) (fun f => b1 (ix2 0 f))
          (fun k f => w2s (ix2 k f)) (fun k f => w2n (ix2 k f)) (fun f => b2 (ix2 0 f)) f := by
  unfold outOf outRow
  have h0 := feat0_eq i T x N blank p hp
  generalize feat0 i T x N blank = H0 at h0 ⊢
  have hA : feat (msg1 E W H0 blank) = nbr s d (fun e => W (ix3 0 0 e)) (feat H0) := by
    funext a b
    refine (agg_at E W s d hs hd H0 _ a b).trans ?_
    have hz : feat (zeros (F := Ideal) blank k0_t1_loop.trips) a b = 0 := (zeros_at _ a b).trans (pay3_at _ _)
    rw [hz, zero_add]
  generalize msg1 E W H0 blank = A at hA ⊢
  have h1 : feat (feat1 w1s w1n b1 A H0) = layer s d (fun e => W (ix3 0 0 e)) (fun k f => w1s (ix2 k f)) (fun k f => w1n (ix2 k f)) (fun f => b1 (ix2 0 f))
      (put p (fun f => x (ix3 0 0 f)) (fun a b => N (ix3 0 a b))) := by
    funext a
    refine (comb_at w1s w1n b1 A H0 a).trans ?_
    rw [hA, h0]
    rfl
  generalize feat1 w1s w1n b1 A H0 = H1 at h1 ⊢
  unfold last answer
  rw [← h1, hp]
  refine (pay1_at _ _ _ _ 0 0 f).trans ?_
  rw [pay14_at]
  simp only [agg2_at E W s d hs hd p H1, pick_at]
  rfl

end Cert.KernelIdeal.Sgcm

end
-- ==== Proof.IdealRes.lean ====
/- The program's result over the extended reals: at every graph the convolution's row of the arguments as launched. -/
module

public import proofs.«01_k».proof.Proof.IdealValue

@[expose] public section

set_option maxRecDepth 16384

noncomputable section

namespace Cert.KernelIdeal.Sgcm

open Cert.KernelIdeal Cert.KernelIdeal.Gen Cert.Sgcm
open Idealize.ShloMosaic Idealize.ShloMosaic.TcCoe Idealize.ShloMosaic.Tactic
open scoped BigOperators

variable (m : (ℓ : Loc nD τ sig) → Buf (Elt Ideal) ℓ)

/-- A bias as a matrix of one row. -/
theorem row_cast (x : Vec Ideal S128 .f32) (f : Fin 128) : shapeCast S1x128 x shapeCasts_S128_S1x128 (ix2 0 f) = x (ix1 f) := by
  pointwise []

/-- The result with the axis of length one dropped. -/
theorem res_cast (x : Vec Ideal S8x1x128 .f32) (b : Fin 8) (f : Fin 128) : shapeCast S8x128 x shapeCasts_S8x1x128_S8x128 (ix2 b f) = x (ix3 b 0 f) := by
  pointwise []

/-- The position read from the table at a graph. -/
theorem pos_at (t : Fin grid0.N) (T : Vec Ideal S8 .i32) (b : Fin 8) (hb : b.val = t.val) : pos (F := Ideal) (grid0.coords t) T = T (ix1 b) := by
  unfold pos
  refine congrArg T (funext fun d => Fin.ext ?_)
  have h : ∀ off : Fin 1 → ℕ, off = ![((grid0.coords t) 0).val] → off d + 1 * (Shape.Idx.first (s := S1) (numel1_S1.symm ▸ Nat.one_pos) d).val = (ix1 b d).val := by
    rintro off rfl
    have hf : (Shape.Idx.first (s := S1) (numel1_S1.symm ▸ Nat.one_pos) d).val = 0 := by
      have := (Shape.Idx.first (s := S1) (numel1_S1.symm ▸ Nat.one_pos) d).isLt
      have h1 : S1.size d = 1 := by fin_cases d; rfl
      omega
    rw [hf]
    match d with
    | ⟨0, _⟩ => show ((grid0.coords t) 0).val + 1 * 0 = b.val; rw [coords_val]; omega
  exact h _ (k0_off1_eq _)

/-- THE RESULT at graph `b`, feature `f`. -/
theorem res_at (c : Dev nD) (b : Fin 8) (f : Fin 128) (p : Fin 4096)
    (hp : (m ((c : Thread nD τ).loc main_arg5) : Vec Ideal S8 .i32) (ix1 b) = BitVec.ofNat 32 p.val) (s d : Fin 65536 → Fin 4096)
    (hs : ∀ e, (m ((c : Thread nD τ).loc main_arg3) : Vec Ideal S8x2x65536 .i32) (ix3 b 0 e) = BitVec.ofNat 32 (s e).val)
    (hd : ∀ e, (m ((c : Thread nD τ).loc main_arg3) : Vec Ideal S8x2x65536 .i32) (ix3 b 1 e) = BitVec.ofNat 32 (d e).val) :
    res m c (ix2 b f) = answer p (fun f => (m ((c : Thread nD τ).loc main_arg0) : Vec Ideal S8x1x128 .f32) (ix3 b 0 f))
      (fun a f => (m ((c : Thread nD τ).loc main_arg2) : Vec Ideal S8x4096x128 .f32) (ix3 b a f)) s d
      (fun e => (m ((c : Thread nD τ).loc main_arg4) : Vec Ideal S8x1x65536 .f32) (ix3 b 0 e))
      (fun k f => (m ((c : Thread nD τ).loc main_arg6) : Vec Ideal S128x128 .f32) (ix2 k f))
      (fun k f => (m ((c : Thread nD τ).loc main_arg7) : Vec Ideal S128x128 .f32) (ix2 k f))
      (fun f => (m ((c : Thread nD τ).loc main_arg8) : Vec Ideal S128 .f32) (ix1 f))
      (fun k f => (m ((c : Thread nD τ).loc main_arg9) : Vec Ideal S128x128 .f32) (ix2 k f))
      (fun k f => (m ((c : Thread nD τ).loc main_arg10) : Vec Ideal S128x128 .f32) (ix2 k f))
      (fun f => (m ((c : Thread nD τ).loc main_arg11) : Vec Ideal S128 .f32) (ix1 f)) f := by
  obtain rfl : c = 0 := Subsingleton.elim _ _
  have hN : (cfgM m).N = 8 := N_0
  have ht : b.val < (cfgM m).N := by rw [hN]; exact b.isLt
  refine (res_cast (outArr m 0) b f).trans ?_
  show outAt m 0 ⟨b.val, ht⟩ (ix3 0 0 f) = _
  unfold outAt
  have htab : tbl m 0 = (m (((0 : Dev nD) : Thread nD τ).loc main_arg5) : Vec Ideal S8 .i32) := V_of_ne m 0 main_arg5 (by decide) (by decide)
  refine (outOf_at _ _ _ _ _ _ _ _ _ _ _ _ p ?_ s d ?_ ?_ f).trans ?_
  · rw [htab]
    exact (pos_at ⟨b.val, ht⟩ _ b rfl).trans hp
  · exact fun e => (blk2 m 0 ⟨b.val, ht⟩ 0 0 e).trans (hs e)
  · exact fun e => (blk2 m 0 ⟨b.val, ht⟩ 0 1 e).trans (hd e)
  · have e0 : (fun f : Fin 128 => (blkOf m 0 0 ⟨b.val, ht⟩ (ix3 0 0 f) : EReal)) = fun f => (m (((0 : Dev nD) : Thread nD τ).loc main_arg0) : Vec Ideal S8x1x128 .f32) (ix3 b 0 f) :=
      funext fun f => blk0 m 0 ⟨b.val, ht⟩ 0 0 f
    have e1 : (fun (a : Fin 4096) (f : Fin 128) => (blkOf m 0 1 ⟨b.val, ht⟩ (ix3 0 a f) : EReal)) = fun a f => (m (((0 : Dev nD) : Thread nD τ).loc main_arg2) : Vec Ideal S8x4096x128 .f32) (ix3 b a f) :=
      funext fun a => funext fun f => blk1 m 0 ⟨b.val, ht⟩ 0 a f
    have e3 : (fun e : Fin 65536 => (blkOf m 0 3 ⟨b.val, ht⟩ (ix3 0 0 e) : EReal)) = fun e => (m (((0 : Dev nD) : Thread nD τ).loc main_arg4) : Vec Ideal S8x1x65536 .f32) (ix3 b 0 e) :=
      funext fun e => blk3 m 0 ⟨b.val, ht⟩ 0 0 e
    have e4 : (blkOf m 0 4 ⟨b.val, ht⟩ : Vec Ideal S128x128 .f32) = m (((0 : Dev nD) : Thread nD τ).loc main_arg6) := (blk4 m 0 _).trans (V_of_ne m 0 main_arg6 (by decide) (by decide))
    have e5 : (blkOf m 0 5 ⟨b.val, ht⟩ : Vec Ideal S128x128 .f32) = m (((0 : Dev nD) : Thread nD τ).loc main_arg7) := (blk5 m 0 _).trans (V_of_ne m 0 main_arg7 (by decide) (by decide))
    have e7 : (blkOf m 0 7 ⟨b.val, ht⟩ : Vec Ideal S128x128 .f32) = m (((0 : Dev nD) : Thread nD τ).loc main_arg9) := (blk7 m 0 _).trans (V_of_ne m 0 main_arg9 (by decide) (by decide))
    have e8 : (blkOf m 0 8 ⟨b.val, ht⟩ : Vec Ideal S128x128 .f32) = m (((0 : Dev nD) : Thread nD τ).loc main_arg10) := (blk8 m 0 _).trans (V_of_ne m 0 main_arg10 (by decide) (by decide))
    have e6 : (fun f : Fin 128 => (blkOf m 0 6 ⟨b.val, ht⟩ (ix2 0 f) : EReal)) = fun f => (m (((0 : Dev nD) : Thread nD τ).loc main_arg8) : Vec Ideal S128 .f32) (ix1 f) :=
      funext fun f => (congrFun ((blk6 m 0 _).trans (V_bias1 m 0)) _).trans (row_cast _ f)
    have e9 : (fun f : Fin 128 => (blkOf m 0 9 ⟨b.val, ht⟩ (ix2 0 f) : EReal)) = fun f => (m (((0 : Dev nD) : Thread nD τ).loc main_arg11) : Vec Ideal S128 .f32) (ix1 f) :=
      funext fun f => (congrFun ((blk9 m 0 _).trans (V_bias2 m 0)) _).trans (row_cast _ f)
    rw [e0, e1, e3, e4, e5, e6, e7, e8, e9]

end Cert.KernelIdeal.Sgcm

end
-- ==== Proof.RefOps.lean ====
/- The reference's gathers and scatters read at an index, the index words in range. -/
module

public import proofs.«01_k».proof.Proof.Gen.ReferenceIdeal
public import Idealize.ShloMosaic.Lib.Pointwise
public import Idealize.ShloMosaic.Lib.Routing.OpsSet

@[expose] public section

set_option maxRecDepth 16384

noncomputable section

namespace Cert.ReferenceIdeal.Sgcm

open Cert.ReferenceIdeal Cert.ReferenceIdeal.Gen
open Idealize.ShloMosaic Idealize.ShloMosaic.Tactic
open scoped BigOperators

/-- A small number's word, read signed, is the number. -/
theorem word_toInt (n : ℕ) (h : n < 2 ^ 31) : (BitVec.ofNat 32 n).toInt = (n : ℤ) := by
  rw [BitVec.toInt_eq_toNat_of_lt (by rw [BitVec.toNat_ofNat]; omega), BitVec.toNat_ofNat]
  omega

/-- The gather of rows by edges: the row that the edge's word names. -/
theorem gather_edges {α : Type} (H : S32768x128.Idx → α) (S : IVec S524288x1 32) (k : Fin 524288) (f : Fin 128) (n : Fin 32768)
    (h : S (ix2 k 0) = BitVec.ofNat 32 n.val) :
    Host.gather gather_S32768x128_S524288x1_S524288x128_1_0_n_n_0_1_1128 H S (ix2 k f) = H (ix2 n f) := by
  have hn := n.isLt
  have e : (gather_S32768x128_S524288x1_S524288x128_1_0_n_n_0_1_1128).siIdx (ix2 k f) ⟨0, by decide⟩ = ix2 k 0 := by
    funext b
    match b with
    | ⟨0, _⟩ => exact Fin.ext rfl
    | ⟨1, _⟩ => exact Fin.ext rfl
  have s0 : (gather_S32768x128_S524288x1_S524288x128_1_0_n_n_0_1_1128).start (ix2 k f) S (0 : Fin 2) = n.val := by
    unfold GatherDims.start
    rw [dif_pos (show (0 : Fin 2) ∈ _ by decide)]
    show min (S ((gather_S32768x128_S524288x1_S524288x128_1_0_n_n_0_1_1128).siIdx (ix2 k f) ⟨0, by decide⟩)).toInt.toNat 32767 = n.val
    rw [e, h, word_toInt _ (by omega)]
    omega
  have s1 : (gather_S32768x128_S524288x1_S524288x128_1_0_n_n_0_1_1128).start (ix2 k f) S (1 : Fin 2) = 0 := by
    unfold GatherDims.start
    rw [dif_neg (show (1 : Fin 2) ∉ _ by decide)]
  have o0 : (gather_S32768x128_S524288x1_S524288x128_1_0_n_n_0_1_1128).offCoord (ix2 k f) (0 : Fin 2) = 0 := GatherDims.offCoord_eq_zero _ _ _ (show (0 : Fin 2) ∉ _ by decide)
  have o1 : (gather_S32768x128_S524288x1_S524288x128_1_0_n_n_0_1_1128).offCoord (ix2 k f) (1 : Fin 2) = f.val := by
    unfold GatherDims.offCoord
    rw [dif_pos (show (1 : Fin 2) ∈ _ by decide)]
    rfl
  have b' : ∀ c, (gather_S32768x128_S524288x1_S524288x128_1_0_n_n_0_1_1128).batchCoord (ix2 k f) c = 0 := fun c => GatherDims.batchCoord_eq_zero _ _ _ List.not_mem_nil
  unfold Host.gather
  refine congrArg H (funext fun a => Fin.ext ?_)
  match a with
  | ⟨0, _⟩ => exact congrArg₂ (· + ·) (congrArg₂ (· + ·) s0 (b' 0)) o0
  | ⟨1, _⟩ => exact (congrArg₂ (· + ·) (congrArg₂ (· + ·) s1 (b' 1)) o1).trans (Nat.zero_add _)

/-- The gather of one row a graph: the row that the graph's word names. -/
theorem gather_last {α : Type} (H : S32768x128.Idx → α) (S : IVec S8x1 32) (k : Fin 8) (f : Fin 128) (n : Fin 32768)
    (h : S (ix2 k 0) = BitVec.ofNat 32 n.val) :
    Host.gather gather_S32768x128_S8x1_S8x128_1_0_n_n_0_1_1128 H S (ix2 k f) = H (ix2 n f) := by
  have hn := n.isLt
  have e : (gather_S32768x128_S8x1_S8x128_1_0_n_n_0_1_1128).siIdx (ix2 k f) ⟨0, by decide⟩ = ix2 k 0 := by
    funext b
    match b with
    | ⟨0, _⟩ => exact Fin.ext rfl
    | ⟨1, _⟩ => exact Fin.ext rfl
  have s0 : (gather_S32768x128_S8x1_S8x128_1_0_n_n_0_1_1128).start (ix2 k f) S (0 : Fin 2) = n.val := by
    unfold GatherDims.start
    rw [dif_pos (show (0 : Fin 2) ∈ _ by decide)]
    show min (S ((gather_S32768x128_S8x1_S8x128_1_0_n_n_0_1_1128).siIdx (ix2 k f) ⟨0, by decide⟩)).toInt.toNat 32767 = n.val
    rw [e, h, word_toInt _ (by omega)]
    omega
  have s1 : (gather_S32768x128_S8x1_S8x128_1_0_n_n_0_1_1128).start (ix2 k f) S (1 : Fin 2) = 0 := by
    unfold GatherDims.start
    rw [dif_neg (show (1 : Fin 2) ∉ _ by decide)]
  have o0 : (gather_S32768x128_S8x1_S8x128_1_0_n_n_0_1_1128).offCoord (ix2 k f) (0 : Fin 2) = 0 := GatherDims.offCoord_eq_zero _ _ _ (show (0 : Fin 2) ∉ _ by decide)
  have o1 : (gather_S32768x128_S8x1_S8x128_1_0_n_n_0_1_1128).offCoord (ix2 k f) (1 : Fin 2) = f.val := by
    unfold GatherDims.offCoord
    rw [dif_pos (show (1 : Fin 2) ∈ _ by decide)]
    rfl
  have b' : ∀ c, (gather_S32768x128_S8x1_S8x128_1_0_n_n_0_1_1128).batchCoord (ix2 k f) c = 0 := fun c => GatherDims.batchCoord_eq_zero _ _ _ List.not_mem_nil
  unfold Host.gather
  refine congrArg H (funext fun a => Fin.ext ?_)
  match a with
  | ⟨0, _⟩ => exact congrArg₂ (· + ·) (congrArg₂ (· + ·) s0 (b' 0)) o0
  | ⟨1, _⟩ => exact (congrArg₂ (· + ·) (congrArg₂ (· + ·) s1 (b' 1)) o1).trans (Nat.zero_add _)

/-- Where an edge's update lands in the sum over edges: at the row its word names, in its own column. -/
theorem edge_lands (D : IVec S524288x1 32) (k : Fin 524288) (f' : Fin 128) (n : Fin 32768) (h : D (ix2 k 0) = BitVec.ofNat 32 n.val) (a : Fin 32768) (f : Fin 128) :
    (scatter_S32768x128_S524288x1_S524288x128_1_0_0_1).resultIdx? (ix2 k f') D = some (ix2 a f) ↔ n = a ∧ f' = f := by
  have hn := n.isLt
  rw [Routing.resultIdx?_eq_some]
  have e : (scatter_S32768x128_S524288x1_S524288x128_1_0_0_1).siIdx (ix2 k f') ⟨0, by decide⟩ = ix2 k 0 := by
    funext b
    match b with
    | ⟨0, _⟩ => exact Fin.ext rfl
    | ⟨1, _⟩ => exact Fin.ext rfl
  have s0 : (scatter_S32768x128_S524288x1_S524288x128_1_0_0_1).start (ix2 k f') D (0 : Fin 2) = (n.val : ℤ) := by
    unfold ScatterDims.start
    rw [dif_pos (show (0 : Fin 2) ∈ _ by decide)]
    show (D ((scatter_S32768x128_S524288x1_S524288x128_1_0_0_1).siIdx (ix2 k f') ⟨0, by decide⟩)).toInt = _
    rw [e, h, word_toInt _ (by omega)]
  have w0 : (scatter_S32768x128_S524288x1_S524288x128_1_0_0_1).window (ix2 k f') (0 : Fin 2) = 0 := by
    unfold ScatterDims.window
    rw [dif_neg (show (0 : Fin 2) ∉ _ by decide)]
  have s1 : (scatter_S32768x128_S524288x1_S524288x128_1_0_0_1).start (ix2 k f') D (1 : Fin 2) = 0 := by
    unfold ScatterDims.start
    rw [dif_neg (show (1 : Fin 2) ∉ _ by decide)]
  have w1 : (scatter_S32768x128_S524288x1_S524288x128_1_0_0_1).window (ix2 k f') (1 : Fin 2) = f'.val := by
    unfold ScatterDims.window
    rw [dif_pos (show (1 : Fin 2) ∈ _ by decide)]
    rfl
  constructor
  · intro q
    have q0 : (scatter_S32768x128_S524288x1_S524288x128_1_0_0_1).start (ix2 k f') D (0 : Fin 2) + ((scatter_S32768x128_S524288x1_S524288x128_1_0_0_1).window (ix2 k f') (0 : Fin 2) : ℤ) = (a.val : ℤ) := q (0 : Fin 2)
    have q1 : (scatter_S32768x128_S524288x1_S524288x128_1_0_0_1).start (ix2 k f') D (1 : Fin 2) + ((scatter_S32768x128_S524288x1_S524288x128_1_0_0_1).window (ix2 k f') (1 : Fin 2) : ℤ) = (f.val : ℤ) := q (1 : Fin 2)
    rw [s0, w0] at q0
    rw [s1, w1] at q1
    exact ⟨Fin.ext (by omega), Fin.ext (by omega)⟩
  · rintro ⟨rfl, rfl⟩ b
    match b with
    | ⟨0, _⟩ =>
      show (scatter_S32768x128_S524288x1_S524288x128_1_0_0_1).start (ix2 k f') D (0 : Fin 2) + ((scatter_S32768x128_S524288x1_S524288x128_1_0_0_1).window (ix2 k f') (0 : Fin 2) : ℤ) = (n.val : ℤ)
      rw [s0, w0]; omega
    | ⟨1, _⟩ =>
      show (scatter_S32768x128_S524288x1_S524288x128_1_0_0_1).start (ix2 k f') D (1 : Fin 2) + ((scatter_S32768x128_S524288x1_S524288x128_1_0_0_1).window (ix2 k f') (1 : Fin 2) : ℤ) = (f'.val : ℤ)
      rw [s1, w1]; omega

/-- THE SUM OVER EDGES at a row: the updates of the edges whose word names the row. -/
theorem sum_edges (Z : FVec Ideal S32768x128 .f32) (D : IVec S524288x1 32) (U : FVec Ideal S524288x128 .f32) (n : Fin 524288 → Fin 32768)
    (h : ∀ k, D (ix2 k 0) = BitVec.ofNat 32 (n k).val) (a : Fin 32768) (f : Fin 128) :
    Host.scatterAdd scatter_S32768x128_S524288x1_S524288x128_1_0_0_1 Z D U (ix2 a f) = Z (ix2 a f) + ∑ k : Fin 524288, if n k = a then U (ix2 k f) else 0 := by
  show Z (ix2 a f) + ∑ j ∈ Finset.univ.filter (fun j => (scatter_S32768x128_S524288x1_S524288x128_1_0_0_1).resultIdx? j D = some (ix2 a f)), U j = _
  rw [Finset.sum_filter]
  refine congrArg _ ((ValueIdx.sum_idx2 _).trans (Finset.sum_congr rfl fun k _ => ?_))
  have e : ∀ f' : Fin 128, (if (scatter_S32768x128_S524288x1_S524288x128_1_0_0_1).resultIdx? (ix2 k f') D = some (ix2 a f) then (U (ix2 k f') : EReal) else 0)
      = if n k = a ∧ f' = f then U (ix2 k f') else 0 := fun f' => if_congr (edge_lands D k f' (n k) (h k) a f) rfl rfl
  refine (Finset.sum_congr rfl fun f' _ => e f').trans ?_
  by_cases hk : n k = a
  · rw [if_pos hk, Finset.sum_eq_single f, if_pos ⟨hk, rfl⟩]
    · intro f' _ hf; exact if_neg fun q => hf q.2
    · intro q; exact absurd (Finset.mem_univ _) q
  · rw [if_neg hk]
    exact Finset.sum_eq_zero fun f' _ => if_neg fun q => hk q.1

/-- Where a graph's new row lands: at the graph's own position, in its own column. -/
theorem row_lands (I : IVec S8x2 32) (b' : Fin 8) (f' : Fin 128) (n : Fin 4096) (h0 : I (ix2 b' 0) = BitVec.ofNat 32 b'.val) (h1 : I (ix2 b' 1) = BitVec.ofNat 32 n.val)
    (b : Fin 8) (a : Fin 4096) (f : Fin 128) :
    (scatter_S8x4096x128_S8x2_S8x128_1_01_01_1).resultIdx? (ix2 b' f') I = some (ix3 b a f) ↔ b' = b ∧ n = a ∧ f' = f := by
  have hb := b'.isLt
  have hn := n.isLt
  rw [Routing.resultIdx?_eq_some]
  have e0 : (scatter_S8x4096x128_S8x2_S8x128_1_01_01_1).siIdx (ix2 b' f') ⟨0, by decide⟩ = ix2 b' 0 := by
    funext b
    match b with
    | ⟨0, _⟩ => exact Fin.ext rfl
    | ⟨1, _⟩ => exact Fin.ext rfl
  have e1 : (scatter_S8x4096x128_S8x2_S8x128_1_01_01_1).siIdx (ix2 b' f') ⟨1, by decide⟩ = ix2 b' 1 := by
    funext b
    match b with
    | ⟨0, _⟩ => exact Fin.ext rfl
    | ⟨1, _⟩ => exact Fin.ext rfl
  have s0 : (scatter_S8x4096x128_S8x2_S8x128_1_01_01_1).start (ix2 b' f') I (0 : Fin 3) = (b'.val : ℤ) := by
    unfold ScatterDims.start
    rw [dif_pos (show (0 : Fin 3) ∈ _ by decide)]
    show (I ((scatter_S8x4096x128_S8x2_S8x128_1_01_01_1).siIdx (ix2 b' f') ⟨0, by decide⟩)).toInt = _
    rw [e0, h0, word_toInt _ (by omega)]
  have s1 : (scatter_S8x4096x128_S8x2_S8x128_1_01_01_1).start (ix2 b' f') I (1 : Fin 3) = (n.val : ℤ) := by
    unfold ScatterDims.start
    rw [dif_pos (show (1 : Fin 3) ∈ _ by decide)]
    show (I ((scatter_S8x4096x128_S8x2_S8x128_1_01_01_1).siIdx (ix2 b' f') ⟨1, by decide⟩)).toInt = _
    rw [e1, h1, word_toInt _ (by omega)]
  have s2 : (scatter_S8x4096x128_S8x2_S8x128_1_01_01_1).start (ix2 b' f') I (2 : Fin 3) = 0 := by
    unfold ScatterDims.start
    rw [dif_neg (show (2 : Fin 3) ∉ _ by decide)]
  have w0 : (scatter_S8x4096x128_S8x2_S8x128_1_01_01_1).window (ix2 b' f') (0 : Fin 3) = 0 := by
    unfold ScatterDims.window
    rw [dif_neg (show (0 : Fin 3) ∉ _ by decide)]
  have w1 : (scatter_S8x4096x128_S8x2_S8x128_1_01_01_1).window (ix2 b' f') (1 : Fin 3) = 0 := by
    unfold ScatterDims.window
    rw [dif_neg (show (1 : Fin 3) ∉ _ by decide)]
  have w2 : (scatter_S8x4096x128_S8x2_S8x128_1_01_01_1).window (ix2 b' f') (2 : Fin 3) = f'.val := by
    unfold ScatterDims.window
    rw [dif_pos (show (2 : Fin 3) ∈ _ by decide)]
    rfl
  have key : ∀ c : Fin 3, (scatter_S8x4096x128_S8x2_S8x128_1_01_01_1).start (ix2 b' f') I c + ((scatter_S8x4096x128_S8x2_S8x128_1_01_01_1).window (ix2 b' f') c : ℤ)
      = ((![b'.val, n.val, f'.val] c : ℕ) : ℤ) := by
    intro c
    match c with
    | ⟨0, _⟩ => exact (congrArg₂ (fun x (y : ℕ) => x + (y : ℤ)) s0 w0).trans (by simp)
    | ⟨1, _⟩ => exact (congrArg₂ (fun x (y : ℕ) => x + (y : ℤ)) s1 w1).trans (by simp)
    | ⟨2, _⟩ => exact (congrArg₂ (fun x (y : ℕ) => x + (y : ℤ)) s2 w2).trans (by simp)
  constructor
  · intro q
    have q0 : ((b'.val : ℕ) : ℤ) = (b.val : ℤ) := (key 0).symm.trans (q (0 : Fin 3))
    have q1 : ((n.val : ℕ) : ℤ) = (a.val : ℤ) := (key 1).symm.trans (q (1 : Fin 3))
    have q2 : ((f'.val : ℕ) : ℤ) = (f.val : ℤ) := (key 2).symm.trans (q (2 : Fin 3))
    exact ⟨Fin.ext (by omega), Fin.ext (by omega), Fin.ext (by omega)⟩
  · rintro ⟨rfl, rfl, rfl⟩ c
    match c with
    | ⟨0, _⟩ => exact key 0
    | ⟨1, _⟩ => exact key 1
    | ⟨2, _⟩ => exact key 2

/-- THE NEW ROWS PUT IN: at each graph's position its new row, elsewhere the nodes. -/
theorem put_rows {α : Type} (X : S8x4096x128.Idx → α) (I : IVec S8x2 32) (U : S8x128.Idx → α) (p : Fin 8 → Fin 4096)
    (h0 : ∀ b, I (ix2 b 0) = BitVec.ofNat 32 b.val) (h1 : ∀ b, I (ix2 b 1) = BitVec.ofNat 32 (p b).val) (b : Fin 8) (a : Fin 4096) (f : Fin 128) :
    Host.scatter scatter_S8x4096x128_S8x2_S8x128_1_01_01_1 (fun _ b => b) X I U (ix3 b a f) = if a = p b then U (ix2 b f) else X (ix3 b a f) := by
  have lands : ∀ k : S8x128.Idx, (scatter_S8x4096x128_S8x2_S8x128_1_01_01_1).resultIdx? k I = some (ix3 b a f) ↔ k 0 = b ∧ p (k 0) = a ∧ k 1 = f := by
    intro k
    have e : k = ix2 (k 0) (k 1) := ValueIdx.eq_ix2 k
    rw [e]
    exact row_lands I (k 0) (k 1) (p (k 0)) (h0 _) (h1 _) b a f
  by_cases h : a = p b
  · rw [if_pos h]
    refine Routing.scatter_set_hit _ X I U _ _ (fun k hk => ?_) (ix2 b f) ((lands _).2 ⟨rfl, h.symm, rfl⟩)
    obtain ⟨k0, _, k1⟩ := (lands k).1 hk
    rw [ValueIdx.eq_ix2 k, k0, k1]
    rfl
  · rw [if_neg h]
    refine Routing.scatter_set_miss _ X I U _ fun k hk => ?_
    obtain ⟨k0, k1, _⟩ := (lands k).1 hk
    rw [k0] at k1
    exact h k1.symm

end Cert.ReferenceIdeal.Sgcm

end
-- ==== Proof.RefStages.lean ====
/- The reference's result as its stages: the new rows put in and the graphs laid end to end, the edges' ends in that
   numbering, one layer, the rows asked for. -/
module

public import proofs.«01_k».proof.Proof.RefOps
public import proofs.«01_k».proof.Proof.Gen.ReferenceIdeal.Run

@[expose] public section

set_option maxRecDepth 16384

noncomputable section

namespace Cert.ReferenceIdeal.Sgcm

open Cert.ReferenceIdeal Cert.ReferenceIdeal.Gen
open Idealize.ShloMosaic Idealize.ShloMosaic.TcCoe Idealize.ShloMosaic.Tactic
open scoped BigOperators

/-- Where each graph's new row goes: the graph's number and its position, each counted from the end if negative. -/
def rowIdx (T : IVec S8 32) : IVec S8x2 32 :=
  concatenate S8x2 1 [⟨S8x1, (broadcastInDim S8x1 ![0] bcast_S8_S8x1_0 (select (cmpi .slt (iotaInDim S8 32 0) (broadcastInDim S8 ![] bcast_S_S8 (constantI S_ 32 0#32))) (addi (iotaInDim S8 32 0) (broadcastInDim S8 ![] bcast_S_S8 (constantI S_ 32 8#32))) (iotaInDim S8 32 0)))⟩, ⟨S8x1, (broadcastInDim S8x1 ![0] bcast_S8_S8x1_0 (select (cmpi .slt T (broadcastInDim S8 ![] bcast_S_S8 (constantI S_ 32 0#32))) (addi T (broadcastInDim S8 ![] bcast_S_S8 (constantI S_ 32 4096#32))) T))⟩] concatenates_S8x1_S8x1_S8x2_d1

/-- The features at the start, the graphs end to end. -/
def flat (x : FVec Ideal S8x1x128 .f32) (N : FVec Ideal S8x4096x128 .f32) (T : IVec S8 32) : FVec Ideal S32768x128 .f32 :=
  shapeCast _ (Host.scatter scatter_S8x4096x128_S8x2_S8x128_1_01_01_1 (fun _ b => b) N (rowIdx T) (shapeCast _ x shapeCasts_S8x1x128_S8x128)) shapeCasts_S8x4096x128_S32768x128

/-- Both ends of the edges, graph `b`'s numbers moved up by `4096 b`. -/
def ends (E : IVec S8x2x65536 32) : IVec S2x524288 32 :=
  shapeCast _ (transpose S2x8x65536 [1, 0, 2] (addi E (broadcastInDim S8x2x65536 ![0, 1, 2] bcast_S8x1x1_S8x2x65536_0_1_2 (broadcastInDim S8x1x1 ![0] bcast_S8_S8x1x1_0 (muli (iotaInDim S8 32 0) (broadcastInDim S8 ![] bcast_S_S8 (constantI S_ 32 4096#32)))))) transposes_S8x2x65536_S2x8x65536_1_0_2) shapeCasts_S2x8x65536_S2x524288

/-- The sources of all edges. -/
def src (E : IVec S8x2x65536 32) : IVec S524288 32 :=
  shapeCast _ (extractStridedSlice S1x524288 ![0, 0] (ends E) slices_S2x524288_S1x524288_0_0) shapeCasts_S1x524288_S524288
/-- The ends of all edges. -/
def dst (E : IVec S8x2x65536 32) : IVec S524288 32 :=
  shapeCast _ (extractStridedSlice S1x524288 ![1, 0] (ends E) slices_S2x524288_S1x524288_1_0) shapeCasts_S1x524288_S524288

/-- The rows the edges' sources name, as the gather takes them. -/
def srcIx (E : IVec S8x2x65536 32) : IVec S524288x1 32 :=
  broadcastInDim S524288x1 ![0] bcast_S524288_S524288x1_0 (select (cmpi .slt (src E) (broadcastInDim S524288 ![] bcast_S_S524288 (constantI S_ 32 0#32))) (addi (src E) (broadcastInDim S524288 ![] bcast_S_S524288 (constantI S_ 32 32768#32))) (src E))
/-- The ends as a column of indices. -/
def dstIx (E : IVec S8x2x65536 32) : IVec S524288x1 32 := broadcastInDim S524288x1 ![0] bcast_S524288_S524288x1_0 (dst E)

/-- The weights, one a column. -/
def wts (W : FVec Ideal S8x1x65536 .f32) : FVec Ideal S524288x128 .f32 :=
  broadcastInDim S524288x128 ![0, 1] bcast_S524288x1_S524288x128_0_1 (broadcastInDim S524288x1 ![0] bcast_S524288_S524288x1_0 (shapeCast _ W shapeCasts_S8x1x65536_S524288))

/-- What every node gathers along its edges. -/
def msgs (S D : IVec S524288x1 32) (W : FVec Ideal S524288x128 .f32) (H : FVec Ideal S32768x128 .f32) : FVec Ideal S32768x128 .f32 :=
  Host.scatterAdd scatter_S32768x128_S524288x1_S524288x128_1_0_0_1 (broadcastInDim S32768x128 ![] bcast_S_S32768x128 (constant S_ .f32 0x00000000#32)) D
    (mulf (Host.gather gather_S32768x128_S524288x1_S524288x128_1_0_n_n_0_1_1128 H S) W)

/-- A node's features after a layer, from its own and the gathered ones. -/
def comb (ws wn : FVec Ideal S128x128 .f32) (b : FVec Ideal S128 .f32) (H A : FVec Ideal S32768x128 .f32) : FVec Ideal S32768x128 .f32 :=
  Host.tanh (addf (addf (Host.dotGeneral dot_S32768x128_S128x128_S32768x128_1_0_0_1_n_n none H ws) (Host.dotGeneral dot_S32768x128_S128x128_S32768x128_1_0_0_1_n_n none A wn))
    (broadcastInDim S32768x128 ![0, 1] bcast_S1x128_S32768x128_0_1 (broadcastInDim S1x128 ![1] bcast_S128_S1x128_1 b)))

/-- One layer. -/
def conv (S D : IVec S524288x1 32) (W : FVec Ideal S524288x128 .f32) (ws wn : FVec Ideal S128x128 .f32) (b : FVec Ideal S128 .f32) (H : FVec Ideal S32768x128 .f32) : FVec Ideal S32768x128 .f32 :=
  comb ws wn b H (msgs S D W H)

/-- The position of each graph's row among all rows. -/
def outPos (T : IVec S8 32) : IVec S8 32 := addi (muli (iotaInDim S8 32 0) (broadcastInDim S8 ![] bcast_S_S8 (constantI S_ 32 4096#32))) T
/-- The wanted rows as a column of indices. -/
def outIx (T : IVec S8 32) : IVec S8x1 32 :=
  broadcastInDim S8x1 ![0] bcast_S8_S8x1_0 (select (cmpi .slt (outPos T) (broadcastInDim S8 ![] bcast_S_S8 (constantI S_ 32 0#32))) (addi (outPos T) (broadcastInDim S8 ![] bcast_S_S8 (constantI S_ 32 32768#32))) (outPos T))

/-- The whole. -/
def whole (x : FVec Ideal S8x1x128 .f32) (N : FVec Ideal S8x4096x128 .f32) (E : IVec S8x2x65536 32) (W : FVec Ideal S8x1x65536 .f32) (T : IVec S8 32)
    (w1s w1n : FVec Ideal S128x128 .f32) (b1 : FVec Ideal S128 .f32) (w2s w2n : FVec Ideal S128x128 .f32) (b2 : FVec Ideal S128 .f32) : FVec Ideal S8x128 .f32 :=
  Host.gather gather_S32768x128_S8x1_S8x128_1_0_n_n_0_1_1128
    (conv (srcIx E) (dstIx E) (wts W) w2s w2n b2 (conv (srcIx E) (dstIx E) (wts W) w1s w1n b1 (flat x N T))) (outIx T)

/-- THE REFERENCE'S RESULT is the whole, of the arguments as launched. -/
theorem res_whole (m : (ℓ : Loc nD τ sig) → Buf (Elt Ideal) ℓ) (c : Dev nD) :
    Cert.ReferenceIdeal.Value.res_main_v79 m c = whole (m ((c.tc : Thread nD τ).loc main_arg0)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) (m ((c.tc : Thread nD τ).loc main_arg11)) := by
  unfold Cert.ReferenceIdeal.Value.res_main_v79
  rfl

end Cert.ReferenceIdeal.Sgcm

end
-- ==== Proof.RefValue.lean ====
/- The reference's result at an index, the edges' ends and the positions in range: at every graph the convolution's row. -/
module

public import proofs.«01_k».proof.Proof.RefStages
public import proofs.«01_k».proof.Proof.Conv
public import Idealize.ShloMosaic.Lib.Pipeline.ValueKit.Acc

@[expose] public section

set_option maxRecDepth 16384

noncomputable section

namespace Cert.ReferenceIdeal.Sgcm

open Cert.ReferenceIdeal Cert.ReferenceIdeal.Gen Cert.Sgcm
open Idealize.ShloMosaic Idealize.ShloMosaic.TcCoe Idealize.ShloMosaic.Tactic
open scoped BigOperators

/-- Row `a` of graph `b` among all rows. -/
abbrev cell (b : Fin 8) (a : Fin 4096) : Fin 32768 := ⟨4096 * b.val + a.val, by have := b.isLt; have := a.isLt; omega⟩
/-- The graph of an edge among all edges. -/
abbrev eg (k : Fin 524288) : Fin 8 := ⟨k.val / 65536, by have := k.isLt; omega⟩
/-- Its number within the graph. -/
abbrev ee (k : Fin 524288) : Fin 65536 := ⟨k.val % 65536, Nat.mod_lt _ (by decide)⟩

/-- Rows of the joined graph are equal when graph and row are. -/
theorem cell_inj {b b' : Fin 8} {a a' : Fin 4096} : cell b' a' = cell b a ↔ b' = b ∧ a' = a := by
  have := a.isLt; have := a'.isLt
  simp only [Fin.ext_iff]
  omega

/-- A sum over all edges is over the graphs and each graph's edges. -/
theorem sum_edge (g : Fin 8 → Fin 65536 → EReal) : ∑ k : Fin 524288, g (eg k) (ee k) = ∑ b, ∑ e, g b e :=
  Fin.sum_divmod_fin 65536 g

/-- A word that is not negative is not counted from the end. -/
theorem keep (x a : BitVec 32) (n : ℕ) (h : x = BitVec.ofNat 32 n) (hn : n < 2 ^ 31) : Scalar.select (IntOp.cmpi .slt x 0#32) a x = BitVec.ofNat 32 n := by
  rw [Routing.wrap_of_lt x a (by rw [h, BitVec.toNat_ofNat]; omega), h]

/-- A row's number within its graph moved up to its number among all rows. -/
theorem move (b a : ℕ) (hb : b < 8) (ha : a < 4096) :
    IntOp.addi (BitVec.ofNat 32 a) (IntOp.muli (BitVec.ofNat 32 b) 4096#32) = BitVec.ofNat 32 (4096 * b + a) := by
  apply BitVec.eq_of_toNat_eq
  show (BitVec.ofNat 32 a + BitVec.ofNat 32 b * 4096#32).toNat = _
  simp only [BitVec.toNat_add, BitVec.toNat_mul, BitVec.toNat_ofNat]
  omega
/-- The same with the terms in the other order. -/
theorem move' (b a : ℕ) (hb : b < 8) (ha : a < 4096) :
    IntOp.addi (IntOp.muli (BitVec.ofNat 32 b) 4096#32) (BitVec.ofNat 32 a) = BitVec.ofNat 32 (4096 * b + a) :=
  (BitVec.add_comm _ _).trans (move b a hb ha)

/-- Where a new node goes: first its graph. -/
theorem rowIdx0 (T : IVec S8 32) (b : Fin 8) : rowIdx T (ix2 b 0) = BitVec.ofNat 32 b.val := by
  have := b.isLt
  pointwise [rowIdx]
  exact keep _ _ _ rfl (by omega)

/-- Then its position. -/
theorem rowIdx1 (T : IVec S8 32) (b : Fin 8) (p : Fin 4096) (h : T (ix1 b) = BitVec.ofNat 32 p.val) : rowIdx T (ix2 b 1) = BitVec.ofNat 32 p.val := by
  have := p.isLt
  pointwise [rowIdx]
  exact keep _ _ _ h (by omega)

/-- The new nodes with the axis of length one dropped. -/
theorem new_cast (x : FVec Ideal S8x1x128 .f32) (b : Fin 8) (f : Fin 128) : shapeCast S8x128 x shapeCasts_S8x1x128_S8x128 (ix2 b f) = x (ix3 b 0 f) := by
  pointwise []

/-- The features of all graphs joined. -/
theorem flat_cast (X : FVec Ideal S8x4096x128 .f32) (b : Fin 8) (a : Fin 4096) (f : Fin 128) :
    shapeCast S32768x128 X shapeCasts_S8x4096x128_S32768x128 (ix2 (cell b a) f) = X (ix3 b a f) := by
  pointwise []
  have ha := a.isLt
  refine congrArg X (funext fun d => Fin.ext ?_)
  match d with
  | ⟨0, _⟩ => show (4096 * b.val + a.val) / 4096 = b.val; omega
  | ⟨1, _⟩ => show (4096 * b.val + a.val) % 4096 = a.val; omega
  | ⟨2, _⟩ => rfl

/-- THE FEATURES AT THE START. -/
theorem flat_at (x : FVec Ideal S8x1x128 .f32) (N : FVec Ideal S8x4096x128 .f32) (T : IVec S8 32) (p : Fin 8 → Fin 4096)
    (hp : ∀ b, T (ix1 b) = BitVec.ofNat 32 (p b).val) (b : Fin 8) (a : Fin 4096) (f : Fin 128) :
    flat x N T (ix2 (cell b a) f) = put (p b) (fun f => x (ix3 b 0 f)) (fun a f => N (ix3 b a f)) a f := by
  unfold flat
  refine (flat_cast _ b a f).trans ((put_rows N (rowIdx T) _ p (rowIdx0 T) (fun b => rowIdx1 T b (p b) (hp b)) b a f).trans ?_)
  rw [new_cast]
  rfl

/-- An edge's source in the joined graph. -/
theorem src_at (E : IVec S8x2x65536 32) (k : Fin 524288) (s : Fin 4096) (h : E (ix3 (eg k) 0 (ee k)) = BitVec.ofNat 32 s.val) :
    src E (ix1 k) = BitVec.ofNat 32 (cell (eg k) s).val := by
  pointwise [src, ends]
  refine (congrArg (fun w => IntOp.addi w _) h).trans (move _ _ ?_ s.isLt)
  have := k.isLt; omega

/-- An edge's end in the joined graph. -/
theorem dstIx_at (E : IVec S8x2x65536 32) (k : Fin 524288) (d : Fin 4096) (h : E (ix3 (eg k) 1 (ee k)) = BitVec.ofNat 32 d.val) :
    dstIx E (ix2 k 0) = BitVec.ofNat 32 (cell (eg k) d).val := by
  pointwise [dstIx, dst, ends]
  refine (congrArg (fun w => IntOp.addi w _) h).trans (move _ _ ?_ d.isLt)
  have := k.isLt; omega

/-- The source as an index: never counted from the end. -/
theorem srcIx_at (E : IVec S8x2x65536 32) (k : Fin 524288) (s : Fin 4096) (h : E (ix3 (eg k) 0 (ee k)) = BitVec.ofNat 32 s.val) :
    srcIx E (ix2 k 0) = BitVec.ofNat 32 (cell (eg k) s).val := by
  pointwise [srcIx]
  exact keep _ _ _ (src_at E k s h) (by have := (cell (eg k) s).isLt; omega)

/-- An edge's weight, at every feature. -/
theorem wts_at (W : FVec Ideal S8x1x65536 .f32) (k : Fin 524288) (f : Fin 128) : wts W (ix2 k f) = W (ix3 (eg k) 0 (ee k)) := by
  pointwise [wts]

/-- One node's features after a layer. -/
theorem comb_at (ws wn : FVec Ideal S128x128 .f32) (b : FVec Ideal S128 .f32) (H A : FVec Ideal S32768x128 .f32) (r : Fin 32768) (f : Fin 128) :
    comb ws wn b H A (ix2 r f) = node (fun k f => ws (ix2 k f)) (fun k f => wn (ix2 k f)) (fun f => b (ix1 f)) (fun k => H (ix2 r k)) (fun k => A (ix2 r k)) f := by
  unfold node
  pointwise [comb]

/-- The wanted row in the joined graph. -/
theorem outIx_at (T : IVec S8 32) (b : Fin 8) (p : Fin 4096) (h : T (ix1 b) = BitVec.ofNat 32 p.val) : outIx T (ix2 b 0) = BitVec.ofNat 32 (cell b p).val := by
  have := (cell b p).isLt
  pointwise [outIx, outPos]
  rw [h, move' _ _ b.isLt p.isLt]
  exact keep _ _ _ rfl (by omega)

/-- The scatter-add starts from zero. -/
theorem zero_at (r : Fin 32768) (f : Fin 128) : broadcastInDim S32768x128 ![] bcast_S_S32768x128 (constant (F := Ideal) S_ .f32 0x00000000#32) (ix2 r f) = 0 := by
  pointwise []

section Graphs

variable (E : IVec S8x2x65536 32) (W : FVec Ideal S8x1x65536 .f32) (s d : Fin 8 → Fin 65536 → Fin 4096)
  (hs : ∀ b e, E (ix3 b 0 e) = BitVec.ofNat 32 (s b e).val) (hd : ∀ b e, E (ix3 b 1 e) = BitVec.ofNat 32 (d b e).val)

include hs hd

/-- WHAT A NODE GATHERS: only its own graph's edges end there. -/
theorem msgs_at (H : FVec Ideal S32768x128 .f32) (b : Fin 8) (a : Fin 4096) (f : Fin 128) :
    msgs (srcIx E) (dstIx E) (wts W) H (ix2 (cell b a) f)
      = nbr (s b) (d b) (fun e => W (ix3 b 0 e)) (fun a f => H (ix2 (cell b a) f)) a f := by
  unfold msgs
  rw [sum_edges _ (dstIx E) _ (fun k => cell (eg k) (d (eg k) (ee k))) (fun k => dstIx_at E k _ (hd _ _)), zero_at, zero_add]
  have e : ∀ k : Fin 524288, (mulf (Host.gather gather_S32768x128_S524288x1_S524288x128_1_0_n_n_0_1_1128 H (srcIx E)) (wts W) (ix2 k f) : EReal)
      = W (ix3 (eg k) 0 (ee k)) * H (ix2 (cell (eg k) (s (eg k) (ee k))) f) := by
    intro k
    show (Host.gather gather_S32768x128_S524288x1_S524288x128_1_0_n_n_0_1_1128 H (srcIx E) (ix2 k f) : EReal) * wts W (ix2 k f) = _
    rw [gather_edges H (srcIx E) k f _ (srcIx_at E k _ (hs _ _)), wts_at, mul_comm]
  simp only [e]
  rw [sum_edge (fun b' e => if cell b' (d b' e) = cell b a then (W (ix3 b' 0 e) : EReal) * H (ix2 (cell b' (s b' e)) f) else 0)]
  rw [Finset.sum_eq_single b]
  · unfold nbr
    refine Finset.sum_congr rfl fun e _ => if_congr ?_ rfl rfl
    rw [cell_inj]
    exact and_iff_right rfl
  · intro b' _ hb
    exact Finset.sum_eq_zero fun e _ => if_neg fun q => hb (cell_inj.1 q).1
  · intro q; exact absurd (Finset.mem_univ _) q

/-- ONE LAYER, graph by graph. -/
theorem conv_at (ws wn : FVec Ideal S128x128 .f32) (bias : FVec Ideal S128 .f32) (H : FVec Ideal S32768x128 .f32) (b : Fin 8) (a : Fin 4096) (f : Fin 128) :
    conv (srcIx E) (dstIx E) (wts W) ws wn bias H (ix2 (cell b a) f)
      = layer (s b) (d b) (fun e => W (ix3 b 0 e)) (fun k f => ws (ix2 k f)) (fun k f => wn (ix2 k f)) (fun f => bias (ix1 f)) (fun a f => H (ix2 (cell b a) f)) a f := by
  unfold conv layer
  rw [comb_at]
  refine congrArg (fun g => node _ _ _ _ g f) (funext fun k => ?_)
  exact msgs_at E W s d hs hd H b a k

/-- THE WHOLE at graph `b`, feature `f`. -/
theorem whole_at (x : FVec Ideal S8x1x128 .f32) (N : FVec Ideal S8x4096x128 .f32) (T : IVec S8 32)
    (w1s w1n : FVec Ideal S128x128 .f32) (b1 : FVec Ideal S128 .f32) (w2s w2n : FVec Ideal S128x128 .f32) (b2 : FVec Ideal S128 .f32)
    (p : Fin 8 → Fin 4096) (hp : ∀ b, T (ix1 b) = BitVec.ofNat 32 (p b).val) (b : Fin 8) (f : Fin 128) :
    whole x N E W T w1s w1n b1 w2s w2n b2 (ix2 b f)
      = answer (p b) (fun f => x (ix3 b 0 f)) (fun a f => N (ix3 b a f)) (s b) (d b) (fun e => W (ix3 b 0 e))
          (fun k f => w1s (ix2 k f)) (fun k f => w1n (ix2 k f)) (fun f => b1 (ix1 f))
          (fun k f => w2s (ix2 k f)) (fun k f => w2n (ix2 k f)) (fun f => b2 (ix1 f)) f := by
  unfold whole answer
  rw [gather_last _ (outIx T) b f _ (outIx_at T b (p b) (hp b)), conv_at E W s d hs hd]
  refine congrArg (fun h => layer _ _ _ _ _ _ h (p b) f) (funext fun a => funext fun f => ?_)
  rw [conv_at E W s d hs hd]
  refine congrArg (fun h => layer _ _ _ _ _ _ h a f) (funext fun a => funext fun f => ?_)
  exact flat_at x N T p hp b a f

end Graphs

end Cert.ReferenceIdeal.Sgcm

end
-- ==== Proof.InRange.lean ====
/- The precondition read back: every edge's two ends and every node's position is a word between 0 and 4095. -/
module

public import proofs.«01_k».proof.Proof.Gen.Pre_in_range
public import Idealize.ShloMosaic.Lib.Pointwise
public import Idealize.ShloMosaic.Lib.ReduceAll
public import Idealize.ShloMosaic.Lib.StableHlo.Predicate

@[expose] public section

set_option maxRecDepth 16384

noncomputable section

namespace Cert.Pre_in_range.Sgcm

open Cert.Pre_in_range Cert.Pre_in_range.Gen
open Idealize.ShloMosaic Idealize.ShloMosaic.Tactic Idealize.ShloMosaic.StableHlo.Predicate

/-- A word that is at least 0 and below 4096, both signed, is a row's number. -/
theorem word_range {w : BitVec 32} (h : IntOp.andi (IntOp.cmpi .sge w 0#32) (IntOp.cmpi .slt w 4096#32) = 1#1) : w.toNat < 4096 := by
  obtain ⟨h0, h1⟩ := IntOp.andi_eq_one.1 h
  have e0 : (0 : ℤ) ≤ w.toInt := by
    have := h0
    simp only [IntOp.cmpi, ofBool_eq_one_iff, BitVec.sle, decide_eq_true_eq] at this
    simpa using this
  have hn : w.toNat < 2 ^ 31 := by
    have := w.isLt
    rw [BitVec.toInt_eq_toNat_cond] at e0
    split at e0 <;> omega
  simpa using (slt_iff_toNat hn (by decide)).1 h1

/-- A word below 4096, as the row it numbers. -/
def rowOf (w : BitVec 32) : Fin 4096 := ⟨w.toNat % 4096, Nat.mod_lt _ (by decide)⟩
/-- Such a word is the number of its row. -/
theorem rowOf_eq {w : BitVec 32} (h : w.toNat < 4096) : w = BitVec.ofNat 32 (rowOf w).val := by
  apply BitVec.eq_of_toNat_eq
  rw [BitVec.toNat_ofNat]
  show w.toNat = w.toNat % 4096 % 2 ^ 32
  omega

variable (x0 : FVec Ideal S8x1x128 .f32) (x1 : IVec S8 32) (x2 : FVec Ideal S8x4096x128 .f32) (x3 : IVec S8x2x65536 32) (x4 : FVec Ideal S8x1x65536 .f32)
  (x5 : IVec S8 32) (x6 x7 : FVec Ideal S128x128 .f32) (x8 : FVec Ideal S128 .f32) (x9 x10 : FVec Ideal S128x128 .f32) (x11 : FVec Ideal S128 .f32)

/-- The precondition gives every edge's ends and every position as row numbers. -/
theorem in_range (h : fn (F := Ideal) x0 x1 x2 x3 x4 x5 x6 x7 x8 x9 x10 x11 = fun _ => 1#1) :
    (∀ b k e, x3 (ix3 b k e) = BitVec.ofNat 32 (rowOf (x3 (ix3 b k e))).val) ∧ ∀ b, x5 (ix1 b) = BitVec.ofNat 32 (rowOf (x5 (ix1 b))).val := by
  obtain ⟨hE, hT⟩ := IntOp.andi_eq_one.1 (congrFun h (Shape.Idx.first h_S_))
  haveI : Subsingleton S_.Idx := ⟨fun a b => funext fun d => d.elim0⟩
  refine ⟨fun b k e => rowOf_eq (word_range ?_), fun b => rowOf_eq (word_range ?_)⟩
  · exact Host.reduce_andi_all _ _ _ _ _ hE (ix3 b k e)
  · exact Host.reduce_andi_all _ _ _ _ _ hT (ix1 b)

end Cert.Pre_in_range.Sgcm

end
-- ==== Proof.Agree.lean ====
/- The two programs' results are one: from arguments in range, the same ones for both, the rows are equal. -/
module

public import proofs.«01_k».proof.Defs
public import proofs.«01_k».proof.Proof.IdealRes
public import proofs.«01_k».proof.Proof.RefValue
public import proofs.«01_k».proof.Proof.InRange

@[expose] public section

set_option maxRecDepth 16384

noncomputable section

namespace Cert.Sgcm

open Idealize.ShloMosaic Idealize.ShloMosaic.TcCoe
open Cert.ReferenceIdeal.Sgcm (whole whole_at)
open Cert.Pre_in_range.Sgcm (in_range rowOf)

variable (m : (ℓ : Loc Cert.KernelIdeal.nD Cert.KernelIdeal.τ Cert.KernelIdeal.sig) → Buf (Elt Ideal) ℓ)

/-- The reference's row of the kernel's arguments is the kernel's row. -/
theorem whole_res (h : Pre_KernelIdeal_in_range m) (c : Dev Cert.KernelIdeal.nD) :
    whole (m (c.tc.loc Cert.KernelIdeal.main_arg0)) (m (c.tc.loc Cert.KernelIdeal.main_arg2)) (m (c.tc.loc Cert.KernelIdeal.main_arg3)) (m (c.tc.loc Cert.KernelIdeal.main_arg4)) (m (c.tc.loc Cert.KernelIdeal.main_arg5)) (m (c.tc.loc Cert.KernelIdeal.main_arg6)) (m (c.tc.loc Cert.KernelIdeal.main_arg7)) (m (c.tc.loc Cert.KernelIdeal.main_arg8)) (m (c.tc.loc Cert.KernelIdeal.main_arg9)) (m (c.tc.loc Cert.KernelIdeal.main_arg10)) (m (c.tc.loc Cert.KernelIdeal.main_arg11))
      = Cert.KernelIdeal.Sgcm.res m c := by
  obtain ⟨hE, hT⟩ := in_range _ _ _ _ _ _ _ _ _ _ _ _ (h c)
  funext k
  rw [ValueIdx.eq_ix2 k]
  exact (whole_at _ _ (fun b e => rowOf _) (fun b e => rowOf _) (fun b e => hE b 0 e) (fun b e => hE b 1 e) _ _ _ _ _ _ _ _ _ (fun b => rowOf _) hT _ _).trans
    (Cert.KernelIdeal.Sgcm.res_at m c _ _ _ (hT _) _ _ (fun e => hE _ 0 e) (fun e => hE _ 1 e)).symm

end Cert.Sgcm

end
-- ==== Proof.lean ====
/- The claims about the graph convolution: the printed kernel and its exact reading run and keep their arguments, the
   reference does, and over the extended reals the two give the same rows when every edge and position is in range. -/
module

public import proofs.«01_k».proof.Defs
public import proofs.«01_k».proof.Proof.PlainPost
public import proofs.«01_k».proof.Proof.IdealPost
public import proofs.«01_k».proof.Proof.Agree
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Pre_in_range

@[expose] public section

noncomputable section

namespace Cert.Proof

open Idealize.ShloMosaic Idealize.SL.Sem

/-- The printed kernel runs, keeps its arguments, and leaves every semaphore at zero. -/
theorem frame_plain : quiescent_Kernel := fun m g _ =>
  (θ_run _ _ _).mono (fun _ h => ⟨fun c => (h.1 c).2, h.2⟩) (Cert.Kernel.Sgcm.run m g)

/-- So does its exact reading. -/
theorem frame_ideal : quiescent_KernelIdeal := fun m g _ =>
  (θ_run _ _ _).mono (fun _ h => ⟨fun c => (h.1 c).2, h.2⟩) (Cert.KernelIdeal.Sgcm.run m g)

/-- So does the reference. -/
theorem frame_ref : quiescent_ReferenceIdeal := fun m g _ =>
  (θ_run _ _ _).mono (fun r h => ⟨fun c => (h c).2, sem_eq_zero_of_no_sems (by decide) r.2⟩) (Cert.ReferenceIdeal.Value.run m g)

/-- From arguments in range, the reference's result is the kernel's. -/
theorem same_result : algebraic_KernelIdeal_ReferenceIdeal_pre_in_range := fun m g m' g' hpre hm =>
  ⟨Cert.KernelIdeal.Sgcm.res m,
    (θ_run _ _ _).mono (fun _ h => h.1) (Cert.KernelIdeal.Sgcm.run m g),
    (θ_run _ _ _).mono (fun r h c => ⟨(h c).1.trans (by
        obtain ⟨h0, h1, h2, h3, h4, h5, h6, h7, h8, h9, h10, h11⟩ := hm c
        rw [Cert.ReferenceIdeal.Sgcm.res_whole, h0, h2, h3, h4, h5, h6, h7, h8, h9, h10, h11]
        exact Cert.Sgcm.whole_res m hpre c), (h c).2⟩)
      (Cert.ReferenceIdeal.Value.run m' g')⟩

/-- The claims together. -/
theorem claim : Cert.Claim :=
  ⟨Cert.Kernel.Gen.facts, Cert.KernelIdeal.Gen.facts, Cert.ReferenceIdeal.Gen.facts, Cert.Pre_in_range.Gen.facts,
    frame_plain, frame_ideal, fun m g _ => frame_ideal m g trivial, frame_ref, fun m g _ => frame_ref m g trivial, trivial, same_result⟩

end Cert.Proof

end
